-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 8192]⟩ ⟨3, ![16, 512, 8192]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![512, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x8192 : Shape := ⟨3, ![1, 512, 8192]⟩
abbrev S512x512 : Shape := ⟨2, ![512, 512]⟩
abbrev S16x256x512 : Shape := ⟨3, ![16, 256, 512]⟩
abbrev S15x4 : Shape := ⟨2, ![15, 4]⟩
abbrev S_ : Shape := ⟨0, ![]⟩
abbrev S1x256x512 : Shape := ⟨3, ![1, 256, 512]⟩
abbrev S256x512 : Shape := ⟨2, ![256, 512]⟩
abbrev S1x1 : Shape := ⟨2, ![1, 1]⟩
abbrev S64x512 : Shape := ⟨2, ![64, 512]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x8192, .bf16⟩
  | .hbm, ⟨1, _⟩ => ⟨S512x512, .f32⟩
  | .local _ .vmem, ⟨0, _⟩ => ⟨S1x512x8192, .bf16⟩
  | .local _ .vmem, ⟨1, _⟩ => ⟨S512x512, .f32⟩
  | .local _ .vmem, ⟨2, _⟩ => ⟨S16x256x512, .bf16⟩
  | .local _ .vmem, ⟨3, _⟩ => ⟨S16x256x512, .bf16⟩
  | _, _ => ⟨S1x512x8192, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 242 → Bool
  | ⟨i, _⟩ => dmaSemScopedAt i

abbrev sig : RefSig :=
  (ofTc nBuf bufTy 1 242 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_53 : BitVec 32 := 1#32
  let v103 : BitVec 32 := Scalar.muli v65 c1_i32_53
  let v104 : BitVec 32 := Scalar.addi c0_i32_54 v103
  v104.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_56 : BitVec 32 := 1#32
  let v105 : BitVec 32 := Scalar.muli v101 c1_i32_56
  let v106 : BitVec 32 := Scalar.addi c0_i32_57 v105
  v106.toNat
def k0_off1 (d0 : Dev nD) : Fin 3 → Nat :=
  let c0 : Index := 0#32
  let c0_82 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_59 : BitVec 32 := 1#32
  let v107 : BitVec 32 := Scalar.subi v29 c1_i32_59
  let c32_i32_60 : BitVec 32 := 32#32
  let v108 : BitVec 32 := Scalar.addi v107 c32_i32_60
  let c16_i32_61 : BitVec 32 := 16#32
  let v109 : BitVec 32 := Scalar.remsi v108 c16_i32_61
  let c0_i32_63 : BitVec 32 := 0#32
  let v111 : BitVec 1 := Scalar.cmpi .sgt v109 c0_i32_63
  let v112 : BitVec 32 := Scalar.extui v111
  let c0_i32_64 : BitVec 32 := 0#32
  let v113 : BitVec 1 := Scalar.cmpi .slt v109 c0_i32_64
  let v114 : BitVec 32 := Scalar.extui v113
  let v115 : BitVec 32 := Scalar.subi v112 v114
  let c4_i32_62 : BitVec 32 := 4#32
  let c0_i32_65 : BitVec 32 := 0#32
  let v116 : BitVec 1 := Scalar.cmpi .sgt c4_i32_62 c0_i32_65
  let v117 : BitVec 32 := Scalar.extui v116
  let c0_i32_66 : BitVec 32 := 0#32
  let v118 : BitVec 1 := Scalar.cmpi .slt c4_i32_62 c0_i32_66
  let v119 : BitVec 32 := Scalar.extui v118
  let v120 : BitVec 32 := Scalar.subi v117 v119
  let v121 : BitVec 1 := Scalar.cmpi .ne v115 v120
  let v122 : BitVec 32 := Scalar.remsi v109 c4_i32_62
  let c0_i32_67 : BitVec 32 := 0#32
  let v123 : BitVec 1 := Scalar.cmpi .ne v122 c0_i32_67
  let v124 : BitVec 1 := Scalar.andi v121 v123
  let v110 : BitVec 32 := Scalar.divsi v109 c4_i32_62
  let c1_i32_68 : BitVec 32 := 1#32
  let v125 : BitVec 32 := Scalar.subi v110 c1_i32_68
  let v126 : BitVec 32 := Scalar.select v124 v125 v110
  let c0_i32_70 : BitVec 32 := 0#32
  let v128 : BitVec 1 := Scalar.cmpi .eq v126 c0_i32_70
  let c4_i32_71 : BitVec 32 := 4#32
  let c4_i32_69 : BitVec 32 := 4#32
  let v127 : BitVec 32 := Scalar.remsi v109 c4_i32_69
  let v129 : BitVec 32 := Scalar.muli c4_i32_71 v127
  let c1_i32_72 : BitVec 32 := 1#32
  let v130 : BitVec 1 := Scalar.cmpi .eq v126 c1_i32_72
  let c4_i32_74 : BitVec 32 := 4#32
  let c3_i32_73 : BitVec 32 := 3#32
  let v131 : BitVec 32 := Scalar.subi c3_i32_73 v127
  let v132 : BitVec 32 := Scalar.muli c4_i32_74 v131
  let c1_i32_75 : BitVec 32 := 1#32
  let v133 : BitVec 32 := Scalar.addi v132 c1_i32_75
  let c2_i32_76 : BitVec 32 := 2#32
  let v134 : BitVec 1 := Scalar.cmpi .eq v126 c2_i32_76
  let c4_i32_77 : BitVec 32 := 4#32
  let v135 : BitVec 32 := Scalar.muli c4_i32_77 v127
  let c2_i32_78 : BitVec 32 := 2#32
  let v136 : BitVec 32 := Scalar.addi v135 c2_i32_78
  let c4_i32_80 : BitVec 32 := 4#32
  let c3_i32_79 : BitVec 32 := 3#32
  let v137 : BitVec 32 := Scalar.subi c3_i32_79 v127
  let v138 : BitVec 32 := Scalar.muli c4_i32_80 v137
  let c3_i32_81 : BitVec 32 := 3#32
  let v139 : BitVec 32 := Scalar.addi v138 c3_i32_81
  let v140 : BitVec 32 := Scalar.select v134 v136 v139
  let v141 : BitVec 32 := Scalar.select v130 v133 v140
  let v142 : BitVec 32 := Scalar.select v128 v129 v141
  let c512_i32 : BitVec 32 := 512#32
  let v143 : BitVec 32 := Scalar.muli v142 c512_i32
  let v144 : Index := Scalar.indexCast v143
  ![0, 0, v144.toNat]
def k0_off2 (d0 : Dev nD) : Fin 3 → Nat :=
  let c0_109 : Index := 0#32
  let c256 : Index := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_85 : BitVec 32 := 1#32
  let v150 : BitVec 32 := Scalar.addi v29 c1_i32_85
  let c32_i32_86 : BitVec 32 := 32#32
  let v151 : BitVec 32 := Scalar.addi v150 c32_i32_86
  let c16_i32_87 : BitVec 32 := 16#32
  let v152 : BitVec 32 := Scalar.remsi v151 c16_i32_87
  let c0_i32_89 : BitVec 32 := 0#32
  let v154 : BitVec 1 := Scalar.cmpi .sgt v152 c0_i32_89
  let v155 : BitVec 32 := Scalar.extui v154
  let c0_i32_90 : BitVec 32 := 0#32
  let v156 : BitVec 1 := Scalar.cmpi .slt v152 c0_i32_90
  let v157 : BitVec 32 := Scalar.extui v156
  let v158 : BitVec 32 := Scalar.subi v155 v157
  let c4_i32_88 : BitVec 32 := 4#32
  let c0_i32_91 : BitVec 32 := 0#32
  let v159 : BitVec 1 := Scalar.cmpi .sgt c4_i32_88 c0_i32_91
  let v160 : BitVec 32 := Scalar.extui v159
  let c0_i32_92 : BitVec 32 := 0#32
  let v161 : BitVec 1 := Scalar.cmpi .slt c4_i32_88 c0_i32_92
  let v162 : BitVec 32 := Scalar.extui v161
  let v163 : BitVec 32 := Scalar.subi v160 v162
  let v164 : BitVec 1 := Scalar.cmpi .ne v158 v163
  let v165 : BitVec 32 := Scalar.remsi v152 c4_i32_88
  let c0_i32_93 : BitVec 32 := 0#32
  let v166 : BitVec 1 := Scalar.cmpi .ne v165 c0_i32_93
  let v167 : BitVec 1 := Scalar.andi v164 v166
  let v153 : BitVec 32 := Scalar.divsi v152 c4_i32_88
  let c1_i32_94 : BitVec 32 := 1#32
  let v168 : BitVec 32 := Scalar.subi v153 c1_i32_94
  let v169 : BitVec 32 := Scalar.select v167 v168 v153
  let c0_i32_96 : BitVec 32 := 0#32
  let v171 : BitVec 1 := Scalar.cmpi .eq v169 c0_i32_96
  let c4_i32_97 : BitVec 32 := 4#32
  let c4_i32_95 : BitVec 32 := 4#32
  let v170 : BitVec 32 := Scalar.remsi v152 c4_i32_95
  let v172 : BitVec 32 := Scalar.muli c4_i32_97 v170
  let c1_i32_98 : BitVec 32 := 1#32
  let v173 : BitVec 1 := Scalar.cmpi .eq v169 c1_i32_98
  let c4_i32_100 : BitVec 32 := 4#32
  let c3_i32_99 : BitVec 32 := 3#32
  let v174 : BitVec 32 := Scalar.subi c3_i32_99 v170
  let v175 : BitVec 32 := Scalar.muli c4_i32_100 v174
  let c1_i32_101 : BitVec 32 := 1#32
  let v176 : BitVec 32 := Scalar.addi v175 c1_i32_101
  let c2_i32_102 : BitVec 32 := 2#32
  let v177 : BitVec 1 := Scalar.cmpi .eq v169 c2_i32_102
  let c4_i32_103 : BitVec 32 := 4#32
  let v178 : BitVec 32 := Scalar.muli c4_i32_103 v170
  let c2_i32_104 : BitVec 32 := 2#32
  let v179 : BitVec 32 := Scalar.addi v178 c2_i32_104
  let c4_i32_106 : BitVec 32 := 4#32
  let c3_i32_105 : BitVec 32 := 3#32
  let v180 : BitVec 32 := Scalar.subi c3_i32_105 v170
  let v181 : BitVec 32 := Scalar.muli c4_i32_106 v180
  let c3_i32_107 : BitVec 32 := 3#32
  let v182 : BitVec 32 := Scalar.addi v181 c3_i32_107
  let v183 : BitVec 32 := Scalar.select v177 v179 v182
  let v184 : BitVec 32 := Scalar.select v173 v176 v183
  let v185 : BitVec 32 := Scalar.select v171 v172 v184
  let c512_i32_108 : BitVec 32 := 512#32
  let v186 : BitVec 32 := Scalar.muli v185 c512_i32_108
  let v187 : Index := Scalar.indexCast v186
  ![0, 256, v187.toNat]
def k0_dev3 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_119 : BitVec 32 := 1#32
  let v193 : BitVec 32 := Scalar.muli v101 c1_i32_119
  let v194 : BitVec 32 := Scalar.addi c0_i32_120 v193
  v194.toNat
def k0_dev4 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_135 : BitVec 32 := 1#32
  let v205 : BitVec 32 := Scalar.muli v65 c1_i32_135
  let v206 : BitVec 32 := Scalar.addi c0_i32_136 v205
  v206.toNat
def k0_dev5 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_151 : BitVec 32 := 1#32
  let v217 : BitVec 32 := Scalar.muli v101 c1_i32_151
  let v218 : BitVec 32 := Scalar.addi c0_i32_152 v217
  v218.toNat
def k0_dev6 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_166 : BitVec 32 := 1#32
  let v229 : BitVec 32 := Scalar.muli v65 c1_i32_166
  let v230 : BitVec 32 := Scalar.addi c0_i32_167 v229
  v230.toNat
def k0_dev7 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_182 : BitVec 32 := 1#32
  let v241 : BitVec 32 := Scalar.muli v101 c1_i32_182
  let v242 : BitVec 32 := Scalar.addi c0_i32_183 v241
  v242.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_197 : BitVec 32 := 1#32
  let v253 : BitVec 32 := Scalar.muli v65 c1_i32_197
  let v254 : BitVec 32 := Scalar.addi c0_i32_198 v253
  v254.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_213 : BitVec 32 := 1#32
  let v265 : BitVec 32 := Scalar.muli v101 c1_i32_213
  let v266 : BitVec 32 := Scalar.addi c0_i32_214 v265
  v266.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_228 : BitVec 32 := 1#32
  let v277 : BitVec 32 := Scalar.muli v65 c1_i32_228
  let v278 : BitVec 32 := Scalar.addi c0_i32_229 v277
  v278.toNat
def k0_off3 (d0 : Dev nD) (c1_i32_239 : BitVec 32) : Fin 3 → Nat :=
  let c0_306 : Index := 0#32
  let c0_307 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_238 : BitVec 32 := 1#32
  let v289 : BitVec 32 := Scalar.subi v29 c1_i32_238
  let v290 : BitVec 32 := Scalar.subi v289 c1_i32_239
  let c32_i32_240 : BitVec 32 := 32#32
  let v291 : BitVec 32 := Scalar.addi v290 c32_i32_240
  let c16_i32_241 : BitVec 32 := 16#32
  let v292 : BitVec 32 := Scalar.remsi v291 c16_i32_241
  let c0_i32_243 : BitVec 32 := 0#32
  let v294 : BitVec 1 := Scalar.cmpi .sgt v292 c0_i32_243
  let v295 : BitVec 32 := Scalar.extui v294
  let c0_i32_244 : BitVec 32 := 0#32
  let v296 : BitVec 1 := Scalar.cmpi .slt v292 c0_i32_244
  let v297 : BitVec 32 := Scalar.extui v296
  let v298 : BitVec 32 := Scalar.subi v295 v297
  let c4_i32_242 : BitVec 32 := 4#32
  let c0_i32_245 : BitVec 32 := 0#32
  let v299 : BitVec 1 := Scalar.cmpi .sgt c4_i32_242 c0_i32_245
  let v300 : BitVec 32 := Scalar.extui v299
  let c0_i32_246 : BitVec 32 := 0#32
  let v301 : BitVec 1 := Scalar.cmpi .slt c4_i32_242 c0_i32_246
  let v302 : BitVec 32 := Scalar.extui v301
  let v303 : BitVec 32 := Scalar.subi v300 v302
  let v304 : BitVec 1 := Scalar.cmpi .ne v298 v303
  let v305 : BitVec 32 := Scalar.remsi v292 c4_i32_242
  let c0_i32_247 : BitVec 32 := 0#32
  let v306 : BitVec 1 := Scalar.cmpi .ne v305 c0_i32_247
  let v307 : BitVec 1 := Scalar.andi v304 v306
  let v293 : BitVec 32 := Scalar.divsi v292 c4_i32_242
  let c1_i32_248 : BitVec 32 := 1#32
  let v308 : BitVec 32 := Scalar.subi v293 c1_i32_248
  let v309 : BitVec 32 := Scalar.select v307 v308 v293
  let c0_i32_250 : BitVec 32 := 0#32
  let v311 : BitVec 1 := Scalar.cmpi .eq v309 c0_i32_250
  let c4_i32_251 : BitVec 32 := 4#32
  let c4_i32_249 : BitVec 32 := 4#32
  let v310 : BitVec 32 := Scalar.remsi v292 c4_i32_249
  let v312 : BitVec 32 := Scalar.muli c4_i32_251 v310
  let c1_i32_252 : BitVec 32 := 1#32
  let v313 : BitVec 1 := Scalar.cmpi .eq v309 c1_i32_252
  let c4_i32_254 : BitVec 32 := 4#32
  let c3_i32_253 : BitVec 32 := 3#32
  let v314 : BitVec 32 := Scalar.subi c3_i32_253 v310
  let v315 : BitVec 32 := Scalar.muli c4_i32_254 v314
  let c1_i32_255 : BitVec 32 := 1#32
  let v316 : BitVec 32 := Scalar.addi v315 c1_i32_255
  let c2_i32_256 : BitVec 32 := 2#32
  let v317 : BitVec 1 := Scalar.cmpi .eq v309 c2_i32_256
  let c4_i32_257 : BitVec 32 := 4#32
  let v318 : BitVec 32 := Scalar.muli c4_i32_257 v310
  let c2_i32_258 : BitVec 32 := 2#32
  let v319 : BitVec 32 := Scalar.addi v318 c2_i32_258
  let c4_i32_260 : BitVec 32 := 4#32
  let c3_i32_259 : BitVec 32 := 3#32
  let v320 : BitVec 32 := Scalar.subi c3_i32_259 v310
  let v321 : BitVec 32 := Scalar.muli c4_i32_260 v320
  let c3_i32_261 : BitVec 32 := 3#32
  let v322 : BitVec 32 := Scalar.addi v321 c3_i32_261
  let v323 : BitVec 32 := Scalar.select v317 v319 v322
  let v324 : BitVec 32 := Scalar.select v313 v316 v323
  let v325 : BitVec 32 := Scalar.select v311 v312 v324
  let c512_i32_305 : BitVec 32 := 512#32
  let v375 : BitVec 32 := Scalar.muli v325 c512_i32_305
  let v376 : Index := Scalar.indexCast v375
  ![0, 0, v376.toNat]
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_317 : BitVec 32 := 1#32
  let v383 : BitVec 32 := Scalar.muli v101 c1_i32_317
  let v384 : BitVec 32 := Scalar.addi c0_i32_318 v383
  v384.toNat
def k0_off4 (d0 : Dev nD) (c1_i32_263 : BitVec 32) : Fin 3 → Nat :=
  let c0_347 : Index := 0#32
  let c256_348 : Index := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_262 : BitVec 32 := 1#32
  let v326 : BitVec 32 := Scalar.addi v29 c1_i32_262
  let v327 : BitVec 32 := Scalar.addi v326 c1_i32_263
  let c32_i32_264 : BitVec 32 := 32#32
  let v328 : BitVec 32 := Scalar.addi v327 c32_i32_264
  let c16_i32_265 : BitVec 32 := 16#32
  let v329 : BitVec 32 := Scalar.remsi v328 c16_i32_265
  let c0_i32_267 : BitVec 32 := 0#32
  let v331 : BitVec 1 := Scalar.cmpi .sgt v329 c0_i32_267
  let v332 : BitVec 32 := Scalar.extui v331
  let c0_i32_268 : BitVec 32 := 0#32
  let v333 : BitVec 1 := Scalar.cmpi .slt v329 c0_i32_268
  let v334 : BitVec 32 := Scalar.extui v333
  let v335 : BitVec 32 := Scalar.subi v332 v334
  let c4_i32_266 : BitVec 32 := 4#32
  let c0_i32_269 : BitVec 32 := 0#32
  let v336 : BitVec 1 := Scalar.cmpi .sgt c4_i32_266 c0_i32_269
  let v337 : BitVec 32 := Scalar.extui v336
  let c0_i32_270 : BitVec 32 := 0#32
  let v338 : BitVec 1 := Scalar.cmpi .slt c4_i32_266 c0_i32_270
  let v339 : BitVec 32 := Scalar.extui v338
  let v340 : BitVec 32 := Scalar.subi v337 v339
  let v341 : BitVec 1 := Scalar.cmpi .ne v335 v340
  let v342 : BitVec 32 := Scalar.remsi v329 c4_i32_266
  let c0_i32_271 : BitVec 32 := 0#32
  let v343 : BitVec 1 := Scalar.cmpi .ne v342 c0_i32_271
  let v344 : BitVec 1 := Scalar.andi v341 v343
  let v330 : BitVec 32 := Scalar.divsi v329 c4_i32_266
  let c1_i32_272 : BitVec 32 := 1#32
  let v345 : BitVec 32 := Scalar.subi v330 c1_i32_272
  let v346 : BitVec 32 := Scalar.select v344 v345 v330
  let c0_i32_274 : BitVec 32 := 0#32
  let v348 : BitVec 1 := Scalar.cmpi .eq v346 c0_i32_274
  let c4_i32_275 : BitVec 32 := 4#32
  let c4_i32_273 : BitVec 32 := 4#32
  let v347 : BitVec 32 := Scalar.remsi v329 c4_i32_273
  let v349 : BitVec 32 := Scalar.muli c4_i32_275 v347
  let c1_i32_276 : BitVec 32 := 1#32
  let v350 : BitVec 1 := Scalar.cmpi .eq v346 c1_i32_276
  let c4_i32_278 : BitVec 32 := 4#32
  let c3_i32_277 : BitVec 32 := 3#32
  let v351 : BitVec 32 := Scalar.subi c3_i32_277 v347
  let v352 : BitVec 32 := Scalar.muli c4_i32_278 v351
  let c1_i32_279 : BitVec 32 := 1#32
  let v353 : BitVec 32 := Scalar.addi v352 c1_i32_279
  let c2_i32_280 : BitVec 32 := 2#32
  let v354 : BitVec 1 := Scalar.cmpi .eq v346 c2_i32_280
  let c4_i32_281 : BitVec 32 := 4#32
  let v355 : BitVec 32 := Scalar.muli c4_i32_281 v347
  let c2_i32_282 : BitVec 32 := 2#32
  let v356 : BitVec 32 := Scalar.addi v355 c2_i32_282
  let c4_i32_284 : BitVec 32 := 4#32
  let c3_i32_283 : BitVec 32 := 3#32
  let v357 : BitVec 32 := Scalar.subi c3_i32_283 v347
  let v358 : BitVec 32 := Scalar.muli c4_i32_284 v357
  let c3_i32_285 : BitVec 32 := 3#32
  let v359 : BitVec 32 := Scalar.addi v358 c3_i32_285
  let v360 : BitVec 32 := Scalar.select v354 v356 v359
  let v361 : BitVec 32 := Scalar.select v350 v353 v360
  let v362 : BitVec 32 := Scalar.select v348 v349 v361
  let c512_i32_346 : BitVec 32 := 512#32
  let v407 : BitVec 32 := Scalar.muli v362 c512_i32_346
  let v408 : Index := Scalar.indexCast v407
  ![0, 256, v408.toNat]
def k0_dev12 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_358 : BitVec 32 := 1#32
  let v415 : BitVec 32 := Scalar.muli v65 c1_i32_358
  let v416 : BitVec 32 := Scalar.addi c0_i32_359 v415
  v416.toNat
def k0_off5 (d0 : Dev nD) (c1_i32_239 : BitVec 32) : Fin 3 → Nat :=
  let c0_387 : Index := 0#32
  let c64_388 : Index := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_238 : BitVec 32 := 1#32
  let v289 : BitVec 32 := Scalar.subi v29 c1_i32_238
  let v290 : BitVec 32 := Scalar.subi v289 c1_i32_239
  let c32_i32_240 : BitVec 32 := 32#32
  let v291 : BitVec 32 := Scalar.addi v290 c32_i32_240
  let c16_i32_241 : BitVec 32 := 16#32
  let v292 : BitVec 32 := Scalar.remsi v291 c16_i32_241
  let c0_i32_243 : BitVec 32 := 0#32
  let v294 : BitVec 1 := Scalar.cmpi .sgt v292 c0_i32_243
  let v295 : BitVec 32 := Scalar.extui v294
  let c0_i32_244 : BitVec 32 := 0#32
  let v296 : BitVec 1 := Scalar.cmpi .slt v292 c0_i32_244
  let v297 : BitVec 32 := Scalar.extui v296
  let v298 : BitVec 32 := Scalar.subi v295 v297
  let c4_i32_242 : BitVec 32 := 4#32
  let c0_i32_245 : BitVec 32 := 0#32
  let v299 : BitVec 1 := Scalar.cmpi .sgt c4_i32_242 c0_i32_245
  let v300 : BitVec 32 := Scalar.extui v299
  let c0_i32_246 : BitVec 32 := 0#32
  let v301 : BitVec 1 := Scalar.cmpi .slt c4_i32_242 c0_i32_246
  let v302 : BitVec 32 := Scalar.extui v301
  let v303 : BitVec 32 := Scalar.subi v300 v302
  let v304 : BitVec 1 := Scalar.cmpi .ne v298 v303
  let v305 : BitVec 32 := Scalar.remsi v292 c4_i32_242
  let c0_i32_247 : BitVec 32 := 0#32
  let v306 : BitVec 1 := Scalar.cmpi .ne v305 c0_i32_247
  let v307 : BitVec 1 := Scalar.andi v304 v306
  let v293 : BitVec 32 := Scalar.divsi v292 c4_i32_242
  let c1_i32_248 : BitVec 32 := 1#32
  let v308 : BitVec 32 := Scalar.subi v293 c1_i32_248
  let v309 : BitVec 32 := Scalar.select v307 v308 v293
  let c0_i32_250 : BitVec 32 := 0#32
  let v311 : BitVec 1 := Scalar.cmpi .eq v309 c0_i32_250
  let c4_i32_251 : BitVec 32 := 4#32
  let c4_i32_249 : BitVec 32 := 4#32
  let v310 : BitVec 32 := Scalar.remsi v292 c4_i32_249
  let v312 : BitVec 32 := Scalar.muli c4_i32_251 v310
  let c1_i32_252 : BitVec 32 := 1#32
  let v313 : BitVec 1 := Scalar.cmpi .eq v309 c1_i32_252
  let c4_i32_254 : BitVec 32 := 4#32
  let c3_i32_253 : BitVec 32 := 3#32
  let v314 : BitVec 32 := Scalar.subi c3_i32_253 v310
  let v315 : BitVec 32 := Scalar.muli c4_i32_254 v314
  let c1_i32_255 : BitVec 32 := 1#32
  let v316 : BitVec 32 := Scalar.addi v315 c1_i32_255
  let c2_i32_256 : BitVec 32 := 2#32
  let v317 : BitVec 1 := Scalar.cmpi .eq v309 c2_i32_256
  let c4_i32_257 : BitVec 32 := 4#32
  let v318 : BitVec 32 := Scalar.muli c4_i32_257 v310
  let c2_i32_258 : BitVec 32 := 2#32
  let v319 : BitVec 32 := Scalar.addi v318 c2_i32_258
  let c4_i32_260 : BitVec 32 := 4#32
  let c3_i32_259 : BitVec 32 := 3#32
  let v320 : BitVec 32 := Scalar.subi c3_i32_259 v310
  let v321 : BitVec 32 := Scalar.muli c4_i32_260 v320
  let c3_i32_261 : BitVec 32 := 3#32
  let v322 : BitVec 32 := Scalar.addi v321 c3_i32_261
  let v323 : BitVec 32 := Scalar.select v317 v319 v322
  let v324 : BitVec 32 := Scalar.select v313 v316 v323
  let v325 : BitVec 32 := Scalar.select v311 v312 v324
  let c512_i32_386 : BitVec 32 := 512#32
  let v439 : BitVec 32 := Scalar.muli v325 c512_i32_386
  let v440 : Index := Scalar.indexCast v439
  ![0, 64, v440.toNat]
def k0_dev13 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_398 : BitVec 32 := 1#32
  let v447 : BitVec 32 := Scalar.muli v101 c1_i32_398
  let v448 : BitVec 32 := Scalar.addi c0_i32_399 v447
  v448.toNat
def k0_off6 (d0 : Dev nD) (c1_i32_263 : BitVec 32) : Fin 3 → Nat :=
  let c0_428 : Index := 0#32
  let c320 : Index := 320#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_262 : BitVec 32 := 1#32
  let v326 : BitVec 32 := Scalar.addi v29 c1_i32_262
  let v327 : BitVec 32 := Scalar.addi v326 c1_i32_263
  let c32_i32_264 : BitVec 32 := 32#32
  let v328 : BitVec 32 := Scalar.addi v327 c32_i32_264
  let c16_i32_265 : BitVec 32 := 16#32
  let v329 : BitVec 32 := Scalar.remsi v328 c16_i32_265
  let c0_i32_267 : BitVec 32 := 0#32
  let v331 : BitVec 1 := Scalar.cmpi .sgt v329 c0_i32_267
  let v332 : BitVec 32 := Scalar.extui v331
  let c0_i32_268 : BitVec 32 := 0#32
  let v333 : BitVec 1 := Scalar.cmpi .slt v329 c0_i32_268
  let v334 : BitVec 32 := Scalar.extui v333
  let v335 : BitVec 32 := Scalar.subi v332 v334
  let c4_i32_266 : BitVec 32 := 4#32
  let c0_i32_269 : BitVec 32 := 0#32
  let v336 : BitVec 1 := Scalar.cmpi .sgt c4_i32_266 c0_i32_269
  let v337 : BitVec 32 := Scalar.extui v336
  let c0_i32_270 : BitVec 32 := 0#32
  let v338 : BitVec 1 := Scalar.cmpi .slt c4_i32_266 c0_i32_270
  let v339 : BitVec 32 := Scalar.extui v338
  let v340 : BitVec 32 := Scalar.subi v337 v339
  let v341 : BitVec 1 := Scalar.cmpi .ne v335 v340
  let v342 : BitVec 32 := Scalar.remsi v329 c4_i32_266
  let c0_i32_271 : BitVec 32 := 0#32
  let v343 : BitVec 1 := Scalar.cmpi .ne v342 c0_i32_271
  let v344 : BitVec 1 := Scalar.andi v341 v343
  let v330 : BitVec 32 := Scalar.divsi v329 c4_i32_266
  let c1_i32_272 : BitVec 32 := 1#32
  let v345 : BitVec 32 := Scalar.subi v330 c1_i32_272
  let v346 : BitVec 32 := Scalar.select v344 v345 v330
  let c0_i32_274 : BitVec 32 := 0#32
  let v348 : BitVec 1 := Scalar.cmpi .eq v346 c0_i32_274
  let c4_i32_275 : BitVec 32 := 4#32
  let c4_i32_273 : BitVec 32 := 4#32
  let v347 : BitVec 32 := Scalar.remsi v329 c4_i32_273
  let v349 : BitVec 32 := Scalar.muli c4_i32_275 v347
  let c1_i32_276 : BitVec 32 := 1#32
  let v350 : BitVec 1 := Scalar.cmpi .eq v346 c1_i32_276
  let c4_i32_278 : BitVec 32 := 4#32
  let c3_i32_277 : BitVec 32 := 3#32
  let v351 : BitVec 32 := Scalar.subi c3_i32_277 v347
  let v352 : BitVec 32 := Scalar.muli c4_i32_278 v351
  let c1_i32_279 : BitVec 32 := 1#32
  let v353 : BitVec 32 := Scalar.addi v352 c1_i32_279
  let c2_i32_280 : BitVec 32 := 2#32
  let v354 : BitVec 1 := Scalar.cmpi .eq v346 c2_i32_280
  let c4_i32_281 : BitVec 32 := 4#32
  let v355 : BitVec 32 := Scalar.muli c4_i32_281 v347
  let c2_i32_282 : BitVec 32 := 2#32
  let v356 : BitVec 32 := Scalar.addi v355 c2_i32_282
  let c4_i32_284 : BitVec 32 := 4#32
  let c3_i32_283 : BitVec 32 := 3#32
  let v357 : BitVec 32 := Scalar.subi c3_i32_283 v347
  let v358 : BitVec 32 := Scalar.muli c4_i32_284 v357
  let c3_i32_285 : BitVec 32 := 3#32
  let v359 : BitVec 32 := Scalar.addi v358 c3_i32_285
  let v360 : BitVec 32 := Scalar.select v354 v356 v359
  let v361 : BitVec 32 := Scalar.select v350 v353 v360
  let v362 : BitVec 32 := Scalar.select v348 v349 v361
  let c512_i32_427 : BitVec 32 := 512#32
  let v471 : BitVec 32 := Scalar.muli v362 c512_i32_427
  let v472 : Index := Scalar.indexCast v471
  ![0, 320, v472.toNat]
def k0_dev14 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_438 : BitVec 32 := 1#32
  let v479 : BitVec 32 := Scalar.muli v65 c1_i32_438
  let v480 : BitVec 32 := Scalar.addi c0_i32_439 v479
  v480.toNat
def k0_off7 (d0 : Dev nD) (c1_i32_239 : BitVec 32) : Fin 3 → Nat :=
  let c0_467 : Index := 0#32
  let c128_468 : Index := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_238 : BitVec 32 := 1#32
  let v289 : BitVec 32 := Scalar.subi v29 c1_i32_238
  let v290 : BitVec 32 := Scalar.subi v289 c1_i32_239
  let c32_i32_240 : BitVec 32 := 32#32
  let v291 : BitVec 32 := Scalar.addi v290 c32_i32_240
  let c16_i32_241 : BitVec 32 := 16#32
  let v292 : BitVec 32 := Scalar.remsi v291 c16_i32_241
  let c0_i32_243 : BitVec 32 := 0#32
  let v294 : BitVec 1 := Scalar.cmpi .sgt v292 c0_i32_243
  let v295 : BitVec 32 := Scalar.extui v294
  let c0_i32_244 : BitVec 32 := 0#32
  let v296 : BitVec 1 := Scalar.cmpi .slt v292 c0_i32_244
  let v297 : BitVec 32 := Scalar.extui v296
  let v298 : BitVec 32 := Scalar.subi v295 v297
  let c4_i32_242 : BitVec 32 := 4#32
  let c0_i32_245 : BitVec 32 := 0#32
  let v299 : BitVec 1 := Scalar.cmpi .sgt c4_i32_242 c0_i32_245
  let v300 : BitVec 32 := Scalar.extui v299
  let c0_i32_246 : BitVec 32 := 0#32
  let v301 : BitVec 1 := Scalar.cmpi .slt c4_i32_242 c0_i32_246
  let v302 : BitVec 32 := Scalar.extui v301
  let v303 : BitVec 32 := Scalar.subi v300 v302
  let v304 : BitVec 1 := Scalar.cmpi .ne v298 v303
  let v305 : BitVec 32 := Scalar.remsi v292 c4_i32_242
  let c0_i32_247 : BitVec 32 := 0#32
  let v306 : BitVec 1 := Scalar.cmpi .ne v305 c0_i32_247
  let v307 : BitVec 1 := Scalar.andi v304 v306
  let v293 : BitVec 32 := Scalar.divsi v292 c4_i32_242
  let c1_i32_248 : BitVec 32 := 1#32
  let v308 : BitVec 32 := Scalar.subi v293 c1_i32_248
  let v309 : BitVec 32 := Scalar.select v307 v308 v293
  let c0_i32_250 : BitVec 32 := 0#32
  let v311 : BitVec 1 := Scalar.cmpi .eq v309 c0_i32_250
  let c4_i32_251 : BitVec 32 := 4#32
  let c4_i32_249 : BitVec 32 := 4#32
  let v310 : BitVec 32 := Scalar.remsi v292 c4_i32_249
  let v312 : BitVec 32 := Scalar.muli c4_i32_251 v310
  let c1_i32_252 : BitVec 32 := 1#32
  let v313 : BitVec 1 := Scalar.cmpi .eq v309 c1_i32_252
  let c4_i32_254 : BitVec 32 := 4#32
  let c3_i32_253 : BitVec 32 := 3#32
  let v314 : BitVec 32 := Scalar.subi c3_i32_253 v310
  let v315 : BitVec 32 := Scalar.muli c4_i32_254 v314
  let c1_i32_255 : BitVec 32 := 1#32
  let v316 : BitVec 32 := Scalar.addi v315 c1_i32_255
  let c2_i32_256 : BitVec 32 := 2#32
  let v317 : BitVec 1 := Scalar.cmpi .eq v309 c2_i32_256
  let c4_i32_257 : BitVec 32 := 4#32
  let v318 : BitVec 32 := Scalar.muli c4_i32_257 v310
  let c2_i32_258 : BitVec 32 := 2#32
  let v319 : BitVec 32 := Scalar.addi v318 c2_i32_258
  let c4_i32_260 : BitVec 32 := 4#32
  let c3_i32_259 : BitVec 32 := 3#32
  let v320 : BitVec 32 := Scalar.subi c3_i32_259 v310
  let v321 : BitVec 32 := Scalar.muli c4_i32_260 v320
  let c3_i32_261 : BitVec 32 := 3#32
  let v322 : BitVec 32 := Scalar.addi v321 c3_i32_261
  let v323 : BitVec 32 := Scalar.select v317 v319 v322
  let v324 : BitVec 32 := Scalar.select v313 v316 v323
  let v325 : BitVec 32 := Scalar.select v311 v312 v324
  let c512_i32_466 : BitVec 32 := 512#32
  let v503 : BitVec 32 := Scalar.muli v325 c512_i32_466
  let v504 : Index := Scalar.indexCast v503
  ![0, 128, v504.toNat]
def k0_dev15 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_478 : BitVec 32 := 1#32
  let v511 : BitVec 32 := Scalar.muli v101 c1_i32_478
  let v512 : BitVec 32 := Scalar.addi c0_i32_479 v511
  v512.toNat
def k0_off8 (d0 : Dev nD) (c1_i32_263 : BitVec 32) : Fin 3 → Nat :=
  let c0_508 : Index := 0#32
  let c384 : Index := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_262 : BitVec 32 := 1#32
  let v326 : BitVec 32 := Scalar.addi v29 c1_i32_262
  let v327 : BitVec 32 := Scalar.addi v326 c1_i32_263
  let c32_i32_264 : BitVec 32 := 32#32
  let v328 : BitVec 32 := Scalar.addi v327 c32_i32_264
  let c16_i32_265 : BitVec 32 := 16#32
  let v329 : BitVec 32 := Scalar.remsi v328 c16_i32_265
  let c0_i32_267 : BitVec 32 := 0#32
  let v331 : BitVec 1 := Scalar.cmpi .sgt v329 c0_i32_267
  let v332 : BitVec 32 := Scalar.extui v331
  let c0_i32_268 : BitVec 32 := 0#32
  let v333 : BitVec 1 := Scalar.cmpi .slt v329 c0_i32_268
  let v334 : BitVec 32 := Scalar.extui v333
  let v335 : BitVec 32 := Scalar.subi v332 v334
  let c4_i32_266 : BitVec 32 := 4#32
  let c0_i32_269 : BitVec 32 := 0#32
  let v336 : BitVec 1 := Scalar.cmpi .sgt c4_i32_266 c0_i32_269
  let v337 : BitVec 32 := Scalar.extui v336
  let c0_i32_270 : BitVec 32 := 0#32
  let v338 : BitVec 1 := Scalar.cmpi .slt c4_i32_266 c0_i32_270
  let v339 : BitVec 32 := Scalar.extui v338
  let v340 : BitVec 32 := Scalar.subi v337 v339
  let v341 : BitVec 1 := Scalar.cmpi .ne v335 v340
  let v342 : BitVec 32 := Scalar.remsi v329 c4_i32_266
  let c0_i32_271 : BitVec 32 := 0#32
  let v343 : BitVec 1 := Scalar.cmpi .ne v342 c0_i32_271
  let v344 : BitVec 1 := Scalar.andi v341 v343
  let v330 : BitVec 32 := Scalar.divsi v329 c4_i32_266
  let c1_i32_272 : BitVec 32 := 1#32
  let v345 : BitVec 32 := Scalar.subi v330 c1_i32_272
  let v346 : BitVec 32 := Scalar.select v344 v345 v330
  let c0_i32_274 : BitVec 32 := 0#32
  let v348 : BitVec 1 := Scalar.cmpi .eq v346 c0_i32_274
  let c4_i32_275 : BitVec 32 := 4#32
  let c4_i32_273 : BitVec 32 := 4#32
  let v347 : BitVec 32 := Scalar.remsi v329 c4_i32_273
  let v349 : BitVec 32 := Scalar.muli c4_i32_275 v347
  let c1_i32_276 : BitVec 32 := 1#32
  let v350 : BitVec 1 := Scalar.cmpi .eq v346 c1_i32_276
  let c4_i32_278 : BitVec 32 := 4#32
  let c3_i32_277 : BitVec 32 := 3#32
  let v351 : BitVec 32 := Scalar.subi c3_i32_277 v347
  let v352 : BitVec 32 := Scalar.muli c4_i32_278 v351
  let c1_i32_279 : BitVec 32 := 1#32
  let v353 : BitVec 32 := Scalar.addi v352 c1_i32_279
  let c2_i32_280 : BitVec 32 := 2#32
  let v354 : BitVec 1 := Scalar.cmpi .eq v346 c2_i32_280
  let c4_i32_281 : BitVec 32 := 4#32
  let v355 : BitVec 32 := Scalar.muli c4_i32_281 v347
  let c2_i32_282 : BitVec 32 := 2#32
  let v356 : BitVec 32 := Scalar.addi v355 c2_i32_282
  let c4_i32_284 : BitVec 32 := 4#32
  let c3_i32_283 : BitVec 32 := 3#32
  let v357 : BitVec 32 := Scalar.subi c3_i32_283 v347
  let v358 : BitVec 32 := Scalar.muli c4_i32_284 v357
  let c3_i32_285 : BitVec 32 := 3#32
  let v359 : BitVec 32 := Scalar.addi v358 c3_i32_285
  let v360 : BitVec 32 := Scalar.select v354 v356 v359
  let v361 : BitVec 32 := Scalar.select v350 v353 v360
  let v362 : BitVec 32 := Scalar.select v348 v349 v361
  let c512_i32_507 : BitVec 32 := 512#32
  let v535 : BitVec 32 := Scalar.muli v362 c512_i32_507
  let v536 : Index := Scalar.indexCast v535
  ![0, 384, v536.toNat]
def k0_dev16 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_518 : BitVec 32 := 1#32
  let v543 : BitVec 32 := Scalar.muli v65 c1_i32_518
  let v544 : BitVec 32 := Scalar.addi c0_i32_519 v543
  v544.toNat
def k0_off9 (d0 : Dev nD) (c1_i32_239 : BitVec 32) : Fin 3 → Nat :=
  let c0_547 : Index := 0#32
  let c192_548 : Index := 192#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_238 : BitVec 32 := 1#32
  let v289 : BitVec 32 := Scalar.subi v29 c1_i32_238
  let v290 : BitVec 32 := Scalar.subi v289 c1_i32_239
  let c32_i32_240 : BitVec 32 := 32#32
  let v291 : BitVec 32 := Scalar.addi v290 c32_i32_240
  let c16_i32_241 : BitVec 32 := 16#32
  let v292 : BitVec 32 := Scalar.remsi v291 c16_i32_241
  let c0_i32_243 : BitVec 32 := 0#32
  let v294 : BitVec 1 := Scalar.cmpi .sgt v292 c0_i32_243
  let v295 : BitVec 32 := Scalar.extui v294
  let c0_i32_244 : BitVec 32 := 0#32
  let v296 : BitVec 1 := Scalar.cmpi .slt v292 c0_i32_244
  let v297 : BitVec 32 := Scalar.extui v296
  let v298 : BitVec 32 := Scalar.subi v295 v297
  let c4_i32_242 : BitVec 32 := 4#32
  let c0_i32_245 : BitVec 32 := 0#32
  let v299 : BitVec 1 := Scalar.cmpi .sgt c4_i32_242 c0_i32_245
  let v300 : BitVec 32 := Scalar.extui v299
  let c0_i32_246 : BitVec 32 := 0#32
  let v301 : BitVec 1 := Scalar.cmpi .slt c4_i32_242 c0_i32_246
  let v302 : BitVec 32 := Scalar.extui v301
  let v303 : BitVec 32 := Scalar.subi v300 v302
  let v304 : BitVec 1 := Scalar.cmpi .ne v298 v303
  let v305 : BitVec 32 := Scalar.remsi v292 c4_i32_242
  let c0_i32_247 : BitVec 32 := 0#32
  let v306 : BitVec 1 := Scalar.cmpi .ne v305 c0_i32_247
  let v307 : BitVec 1 := Scalar.andi v304 v306
  let v293 : BitVec 32 := Scalar.divsi v292 c4_i32_242
  let c1_i32_248 : BitVec 32 := 1#32
  let v308 : BitVec 32 := Scalar.subi v293 c1_i32_248
  let v309 : BitVec 32 := Scalar.select v307 v308 v293
  let c0_i32_250 : BitVec 32 := 0#32
  let v311 : BitVec 1 := Scalar.cmpi .eq v309 c0_i32_250
  let c4_i32_251 : BitVec 32 := 4#32
  let c4_i32_249 : BitVec 32 := 4#32
  let v310 : BitVec 32 := Scalar.remsi v292 c4_i32_249
  let v312 : BitVec 32 := Scalar.muli c4_i32_251 v310
  let c1_i32_252 : BitVec 32 := 1#32
  let v313 : BitVec 1 := Scalar.cmpi .eq v309 c1_i32_252
  let c4_i32_254 : BitVec 32 := 4#32
  let c3_i32_253 : BitVec 32 := 3#32
  let v314 : BitVec 32 := Scalar.subi c3_i32_253 v310
  let v315 : BitVec 32 := Scalar.muli c4_i32_254 v314
  let c1_i32_255 : BitVec 32 := 1#32
  let v316 : BitVec 32 := Scalar.addi v315 c1_i32_255
  let c2_i32_256 : BitVec 32 := 2#32
  let v317 : BitVec 1 := Scalar.cmpi .eq v309 c2_i32_256
  let c4_i32_257 : BitVec 32 := 4#32
  let v318 : BitVec 32 := Scalar.muli c4_i32_257 v310
  let c2_i32_258 : BitVec 32 := 2#32
  let v319 : BitVec 32 := Scalar.addi v318 c2_i32_258
  let c4_i32_260 : BitVec 32 := 4#32
  let c3_i32_259 : BitVec 32 := 3#32
  let v320 : BitVec 32 := Scalar.subi c3_i32_259 v310
  let v321 : BitVec 32 := Scalar.muli c4_i32_260 v320
  let c3_i32_261 : BitVec 32 := 3#32
  let v322 : BitVec 32 := Scalar.addi v321 c3_i32_261
  let v323 : BitVec 32 := Scalar.select v317 v319 v322
  let v324 : BitVec 32 := Scalar.select v313 v316 v323
  let v325 : BitVec 32 := Scalar.select v311 v312 v324
  let c512_i32_546 : BitVec 32 := 512#32
  let v567 : BitVec 32 := Scalar.muli v325 c512_i32_546
  let v568 : Index := Scalar.indexCast v567
  ![0, 192, v568.toNat]
def k0_dev17 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_558 : BitVec 32 := 1#32
  let v575 : BitVec 32 := Scalar.muli v101 c1_i32_558
  let v576 : BitVec 32 := Scalar.addi c0_i32_559 v575
  v576.toNat
def k0_off10 (d0 : Dev nD) (c1_i32_263 : BitVec 32) : Fin 3 → Nat :=
  let c0_588 : Index := 0#32
  let c448 : Index := 448#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_262 : BitVec 32 := 1#32
  let v326 : BitVec 32 := Scalar.addi v29 c1_i32_262
  let v327 : BitVec 32 := Scalar.addi v326 c1_i32_263
  let c32_i32_264 : BitVec 32 := 32#32
  let v328 : BitVec 32 := Scalar.addi v327 c32_i32_264
  let c16_i32_265 : BitVec 32 := 16#32
  let v329 : BitVec 32 := Scalar.remsi v328 c16_i32_265
  let c0_i32_267 : BitVec 32 := 0#32
  let v331 : BitVec 1 := Scalar.cmpi .sgt v329 c0_i32_267
  let v332 : BitVec 32 := Scalar.extui v331
  let c0_i32_268 : BitVec 32 := 0#32
  let v333 : BitVec 1 := Scalar.cmpi .slt v329 c0_i32_268
  let v334 : BitVec 32 := Scalar.extui v333
  let v335 : BitVec 32 := Scalar.subi v332 v334
  let c4_i32_266 : BitVec 32 := 4#32
  let c0_i32_269 : BitVec 32 := 0#32
  let v336 : BitVec 1 := Scalar.cmpi .sgt c4_i32_266 c0_i32_269
  let v337 : BitVec 32 := Scalar.extui v336
  let c0_i32_270 : BitVec 32 := 0#32
  let v338 : BitVec 1 := Scalar.cmpi .slt c4_i32_266 c0_i32_270
  let v339 : BitVec 32 := Scalar.extui v338
  let v340 : BitVec 32 := Scalar.subi v337 v339
  let v341 : BitVec 1 := Scalar.cmpi .ne v335 v340
  let v342 : BitVec 32 := Scalar.remsi v329 c4_i32_266
  let c0_i32_271 : BitVec 32 := 0#32
  let v343 : BitVec 1 := Scalar.cmpi .ne v342 c0_i32_271
  let v344 : BitVec 1 := Scalar.andi v341 v343
  let v330 : BitVec 32 := Scalar.divsi v329 c4_i32_266
  let c1_i32_272 : BitVec 32 := 1#32
  let v345 : BitVec 32 := Scalar.subi v330 c1_i32_272
  let v346 : BitVec 32 := Scalar.select v344 v345 v330
  let c0_i32_274 : BitVec 32 := 0#32
  let v348 : BitVec 1 := Scalar.cmpi .eq v346 c0_i32_274
  let c4_i32_275 : BitVec 32 := 4#32
  let c4_i32_273 : BitVec 32 := 4#32
  let v347 : BitVec 32 := Scalar.remsi v329 c4_i32_273
  let v349 : BitVec 32 := Scalar.muli c4_i32_275 v347
  let c1_i32_276 : BitVec 32 := 1#32
  let v350 : BitVec 1 := Scalar.cmpi .eq v346 c1_i32_276
  let c4_i32_278 : BitVec 32 := 4#32
  let c3_i32_277 : BitVec 32 := 3#32
  let v351 : BitVec 32 := Scalar.subi c3_i32_277 v347
  let v352 : BitVec 32 := Scalar.muli c4_i32_278 v351
  let c1_i32_279 : BitVec 32 := 1#32
  let v353 : BitVec 32 := Scalar.addi v352 c1_i32_279
  let c2_i32_280 : BitVec 32 := 2#32
  let v354 : BitVec 1 := Scalar.cmpi .eq v346 c2_i32_280
  let c4_i32_281 : BitVec 32 := 4#32
  let v355 : BitVec 32 := Scalar.muli c4_i32_281 v347
  let c2_i32_282 : BitVec 32 := 2#32
  let v356 : BitVec 32 := Scalar.addi v355 c2_i32_282
  let c4_i32_284 : BitVec 32 := 4#32
  let c3_i32_283 : BitVec 32 := 3#32
  let v357 : BitVec 32 := Scalar.subi c3_i32_283 v347
  let v358 : BitVec 32 := Scalar.muli c4_i32_284 v357
  let c3_i32_285 : BitVec 32 := 3#32
  let v359 : BitVec 32 := Scalar.addi v358 c3_i32_285
  let v360 : BitVec 32 := Scalar.select v354 v356 v359
  let v361 : BitVec 32 := Scalar.select v350 v353 v360
  let v362 : BitVec 32 := Scalar.select v348 v349 v361
  let c512_i32_587 : BitVec 32 := 512#32
  let v599 : BitVec 32 := Scalar.muli v362 c512_i32_587
  let v600 : Index := Scalar.indexCast v599
  ![0, 448, v600.toNat]
def k0_dev18 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_598 : BitVec 32 := 1#32
  let v607 : BitVec 32 := Scalar.muli v65 c1_i32_598
  let v608 : BitVec 32 := Scalar.addi c0_i32_599 v607
  v608.toNat
def k0_dev19 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_686 : BitVec 32 := 1#32
  let v713 : BitVec 32 := Scalar.muli v101 c1_i32_686
  let v714 : BitVec 32 := Scalar.addi c0_i32_687 v713
  v714.toNat
def k0_dev20 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_727 : BitVec 32 := 1#32
  let v745 : BitVec 32 := Scalar.muli v65 c1_i32_727
  let v746 : BitVec 32 := Scalar.addi c0_i32_728 v745
  v746.toNat
def k0_dev21 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_768 : BitVec 32 := 1#32
  let v777 : BitVec 32 := Scalar.muli v101 c1_i32_768
  let v778 : BitVec 32 := Scalar.addi c0_i32_769 v777
  v778.toNat
def k0_dev22 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_809 : BitVec 32 := 1#32
  let v809 : BitVec 32 := Scalar.muli v65 c1_i32_809
  let v810 : BitVec 32 := Scalar.addi c0_i32_810 v809
  v810.toNat
def k0_dev23 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_850 : BitVec 32 := 1#32
  let v841 : BitVec 32 := Scalar.muli v101 c1_i32_850
  let v842 : BitVec 32 := Scalar.addi c0_i32_851 v841
  v842.toNat
def k0_dev24 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_891 : BitVec 32 := 1#32
  let v873 : BitVec 32 := Scalar.muli v65 c1_i32_891
  let v874 : BitVec 32 := Scalar.addi c0_i32_892 v873
  v874.toNat
def k0_dev25 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_932 : BitVec 32 := 1#32
  let v905 : BitVec 32 := Scalar.muli v101 c1_i32_932
  let v906 : BitVec 32 := Scalar.addi c0_i32_933 v905
  v906.toNat
def k0_dev26 (d0 : Dev nD) : Nat :=
  let c0_i32_974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_973 : BitVec 32 := 1#32
  let v937 : BitVec 32 := Scalar.muli v65 c1_i32_973
  let v938 : BitVec 32 := Scalar.addi c0_i32_974 v937
  v938.toNat
def k0_dev27 (d0 : Dev nD) : Nat :=
  let c0_i32_1062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1061 : BitVec 32 := 1#32
  let v1043 : BitVec 32 := Scalar.muli v101 c1_i32_1061
  let v1044 : BitVec 32 := Scalar.addi c0_i32_1062 v1043
  v1044.toNat
def k0_dev28 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1102 : BitVec 32 := 1#32
  let v1075 : BitVec 32 := Scalar.muli v65 c1_i32_1102
  let v1076 : BitVec 32 := Scalar.addi c0_i32_1103 v1075
  v1076.toNat
def k0_dev29 (d0 : Dev nD) : Nat :=
  let c0_i32_1144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1143 : BitVec 32 := 1#32
  let v1107 : BitVec 32 := Scalar.muli v101 c1_i32_1143
  let v1108 : BitVec 32 := Scalar.addi c0_i32_1144 v1107
  v1108.toNat
def k0_dev30 (d0 : Dev nD) : Nat :=
  let c0_i32_1185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1184 : BitVec 32 := 1#32
  let v1139 : BitVec 32 := Scalar.muli v65 c1_i32_1184
  let v1140 : BitVec 32 := Scalar.addi c0_i32_1185 v1139
  v1140.toNat
def k0_dev31 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1225 : BitVec 32 := 1#32
  let v1171 : BitVec 32 := Scalar.muli v101 c1_i32_1225
  let v1172 : BitVec 32 := Scalar.addi c0_i32_1226 v1171
  v1172.toNat
def k0_dev32 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1266 : BitVec 32 := 1#32
  let v1203 : BitVec 32 := Scalar.muli v65 c1_i32_1266
  let v1204 : BitVec 32 := Scalar.addi c0_i32_1267 v1203
  v1204.toNat
def k0_dev33 (d0 : Dev nD) : Nat :=
  let c0_i32_1308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1307 : BitVec 32 := 1#32
  let v1235 : BitVec 32 := Scalar.muli v101 c1_i32_1307
  let v1236 : BitVec 32 := Scalar.addi c0_i32_1308 v1235
  v1236.toNat
def k0_dev34 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1348 : BitVec 32 := 1#32
  let v1267 : BitVec 32 := Scalar.muli v65 c1_i32_1348
  let v1268 : BitVec 32 := Scalar.addi c0_i32_1349 v1267
  v1268.toNat
def k0_dev35 (d0 : Dev nD) : Nat :=
  let c0_i32_1437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1436 : BitVec 32 := 1#32
  let v1373 : BitVec 32 := Scalar.muli v101 c1_i32_1436
  let v1374 : BitVec 32 := Scalar.addi c0_i32_1437 v1373
  v1374.toNat
def k0_dev36 (d0 : Dev nD) : Nat :=
  let c0_i32_1478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1477 : BitVec 32 := 1#32
  let v1405 : BitVec 32 := Scalar.muli v65 c1_i32_1477
  let v1406 : BitVec 32 := Scalar.addi c0_i32_1478 v1405
  v1406.toNat
def k0_dev37 (d0 : Dev nD) : Nat :=
  let c0_i32_1519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1518 : BitVec 32 := 1#32
  let v1437 : BitVec 32 := Scalar.muli v101 c1_i32_1518
  let v1438 : BitVec 32 := Scalar.addi c0_i32_1519 v1437
  v1438.toNat
def k0_dev38 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1559 : BitVec 32 := 1#32
  let v1469 : BitVec 32 := Scalar.muli v65 c1_i32_1559
  let v1470 : BitVec 32 := Scalar.addi c0_i32_1560 v1469
  v1470.toNat
def k0_dev39 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1600 : BitVec 32 := 1#32
  let v1501 : BitVec 32 := Scalar.muli v101 c1_i32_1600
  let v1502 : BitVec 32 := Scalar.addi c0_i32_1601 v1501
  v1502.toNat
def k0_dev40 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1641 : BitVec 32 := 1#32
  let v1533 : BitVec 32 := Scalar.muli v65 c1_i32_1641
  let v1534 : BitVec 32 := Scalar.addi c0_i32_1642 v1533
  v1534.toNat
def k0_dev41 (d0 : Dev nD) : Nat :=
  let c0_i32_1683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1682 : BitVec 32 := 1#32
  let v1565 : BitVec 32 := Scalar.muli v101 c1_i32_1682
  let v1566 : BitVec 32 := Scalar.addi c0_i32_1683 v1565
  v1566.toNat
def k0_dev42 (d0 : Dev nD) : Nat :=
  let c0_i32_1724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1723 : BitVec 32 := 1#32
  let v1597 : BitVec 32 := Scalar.muli v65 c1_i32_1723
  let v1598 : BitVec 32 := Scalar.addi c0_i32_1724 v1597
  v1598.toNat
def k0_dev43 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1810 : BitVec 32 := 1#32
  let v1703 : BitVec 32 := Scalar.muli v101 c1_i32_1810
  let v1704 : BitVec 32 := Scalar.addi c0_i32_1811 v1703
  v1704.toNat
def k0_dev44 (d0 : Dev nD) : Nat :=
  let c0_i32_1852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1851 : BitVec 32 := 1#32
  let v1735 : BitVec 32 := Scalar.muli v65 c1_i32_1851
  let v1736 : BitVec 32 := Scalar.addi c0_i32_1852 v1735
  v1736.toNat
def k0_dev45 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1892 : BitVec 32 := 1#32
  let v1767 : BitVec 32 := Scalar.muli v101 c1_i32_1892
  let v1768 : BitVec 32 := Scalar.addi c0_i32_1893 v1767
  v1768.toNat
def k0_dev46 (d0 : Dev nD) : Nat :=
  let c0_i32_1934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_1933 : BitVec 32 := 1#32
  let v1799 : BitVec 32 := Scalar.muli v65 c1_i32_1933
  let v1800 : BitVec 32 := Scalar.addi c0_i32_1934 v1799
  v1800.toNat
def k0_dev47 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_1974 : BitVec 32 := 1#32
  let v1831 : BitVec 32 := Scalar.muli v101 c1_i32_1974
  let v1832 : BitVec 32 := Scalar.addi c0_i32_1975 v1831
  v1832.toNat
def k0_dev48 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2015 : BitVec 32 := 1#32
  let v1863 : BitVec 32 := Scalar.muli v65 c1_i32_2015
  let v1864 : BitVec 32 := Scalar.addi c0_i32_2016 v1863
  v1864.toNat
def k0_dev49 (d0 : Dev nD) : Nat :=
  let c0_i32_2057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2056 : BitVec 32 := 1#32
  let v1895 : BitVec 32 := Scalar.muli v101 c1_i32_2056
  let v1896 : BitVec 32 := Scalar.addi c0_i32_2057 v1895
  v1896.toNat
def k0_dev50 (d0 : Dev nD) : Nat :=
  let c0_i32_2098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2097 : BitVec 32 := 1#32
  let v1927 : BitVec 32 := Scalar.muli v65 c1_i32_2097
  let v1928 : BitVec 32 := Scalar.addi c0_i32_2098 v1927
  v1928.toNat
def k0_dev51 (d0 : Dev nD) : Nat :=
  let c0_i32_2185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2184 : BitVec 32 := 1#32
  let v2033 : BitVec 32 := Scalar.muli v101 c1_i32_2184
  let v2034 : BitVec 32 := Scalar.addi c0_i32_2185 v2033
  v2034.toNat
def k0_dev52 (d0 : Dev nD) : Nat :=
  let c0_i32_2226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2225 : BitVec 32 := 1#32
  let v2065 : BitVec 32 := Scalar.muli v65 c1_i32_2225
  let v2066 : BitVec 32 := Scalar.addi c0_i32_2226 v2065
  v2066.toNat
def k0_dev53 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2266 : BitVec 32 := 1#32
  let v2097 : BitVec 32 := Scalar.muli v101 c1_i32_2266
  let v2098 : BitVec 32 := Scalar.addi c0_i32_2267 v2097
  v2098.toNat
def k0_dev54 (d0 : Dev nD) : Nat :=
  let c0_i32_2308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2307 : BitVec 32 := 1#32
  let v2129 : BitVec 32 := Scalar.muli v65 c1_i32_2307
  let v2130 : BitVec 32 := Scalar.addi c0_i32_2308 v2129
  v2130.toNat
def k0_dev55 (d0 : Dev nD) : Nat :=
  let c0_i32_2349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2348 : BitVec 32 := 1#32
  let v2161 : BitVec 32 := Scalar.muli v101 c1_i32_2348
  let v2162 : BitVec 32 := Scalar.addi c0_i32_2349 v2161
  v2162.toNat
def k0_dev56 (d0 : Dev nD) : Nat :=
  let c0_i32_2390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2389 : BitVec 32 := 1#32
  let v2193 : BitVec 32 := Scalar.muli v65 c1_i32_2389
  let v2194 : BitVec 32 := Scalar.addi c0_i32_2390 v2193
  v2194.toNat
def k0_dev57 (d0 : Dev nD) : Nat :=
  let c0_i32_2431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2430 : BitVec 32 := 1#32
  let v2225 : BitVec 32 := Scalar.muli v101 c1_i32_2430
  let v2226 : BitVec 32 := Scalar.addi c0_i32_2431 v2225
  v2226.toNat
def k0_dev58 (d0 : Dev nD) : Nat :=
  let c0_i32_2472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2471 : BitVec 32 := 1#32
  let v2257 : BitVec 32 := Scalar.muli v65 c1_i32_2471
  let v2258 : BitVec 32 := Scalar.addi c0_i32_2472 v2257
  v2258.toNat
def k0_dev59 (d0 : Dev nD) : Nat :=
  let c0_i32_2560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2559 : BitVec 32 := 1#32
  let v2363 : BitVec 32 := Scalar.muli v101 c1_i32_2559
  let v2364 : BitVec 32 := Scalar.addi c0_i32_2560 v2363
  v2364.toNat
def k0_dev60 (d0 : Dev nD) : Nat :=
  let c0_i32_2601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2600 : BitVec 32 := 1#32
  let v2395 : BitVec 32 := Scalar.muli v65 c1_i32_2600
  let v2396 : BitVec 32 := Scalar.addi c0_i32_2601 v2395
  v2396.toNat
def k0_dev61 (d0 : Dev nD) : Nat :=
  let c0_i32_2642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2641 : BitVec 32 := 1#32
  let v2427 : BitVec 32 := Scalar.muli v101 c1_i32_2641
  let v2428 : BitVec 32 := Scalar.addi c0_i32_2642 v2427
  v2428.toNat
def k0_dev62 (d0 : Dev nD) : Nat :=
  let c0_i32_2683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2682 : BitVec 32 := 1#32
  let v2459 : BitVec 32 := Scalar.muli v65 c1_i32_2682
  let v2460 : BitVec 32 := Scalar.addi c0_i32_2683 v2459
  v2460.toNat
def k0_dev63 (d0 : Dev nD) : Nat :=
  let c0_i32_2724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2723 : BitVec 32 := 1#32
  let v2491 : BitVec 32 := Scalar.muli v101 c1_i32_2723
  let v2492 : BitVec 32 := Scalar.addi c0_i32_2724 v2491
  v2492.toNat
def k0_dev64 (d0 : Dev nD) : Nat :=
  let c0_i32_2765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2764 : BitVec 32 := 1#32
  let v2523 : BitVec 32 := Scalar.muli v65 c1_i32_2764
  let v2524 : BitVec 32 := Scalar.addi c0_i32_2765 v2523
  v2524.toNat
def k0_dev65 (d0 : Dev nD) : Nat :=
  let c0_i32_2806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2805 : BitVec 32 := 1#32
  let v2555 : BitVec 32 := Scalar.muli v101 c1_i32_2805
  let v2556 : BitVec 32 := Scalar.addi c0_i32_2806 v2555
  v2556.toNat
def k0_dev66 (d0 : Dev nD) : Nat :=
  let c0_i32_2847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2846 : BitVec 32 := 1#32
  let v2587 : BitVec 32 := Scalar.muli v65 c1_i32_2846
  let v2588 : BitVec 32 := Scalar.addi c0_i32_2847 v2587
  v2588.toNat
def k0_dev67 (d0 : Dev nD) : Nat :=
  let c0_i32_2935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_2934 : BitVec 32 := 1#32
  let v2693 : BitVec 32 := Scalar.muli v101 c1_i32_2934
  let v2694 : BitVec 32 := Scalar.addi c0_i32_2935 v2693
  v2694.toNat
def k0_dev68 (d0 : Dev nD) : Nat :=
  let c0_i32_2976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_2975 : BitVec 32 := 1#32
  let v2725 : BitVec 32 := Scalar.muli v65 c1_i32_2975
  let v2726 : BitVec 32 := Scalar.addi c0_i32_2976 v2725
  v2726.toNat
def k0_dev69 (d0 : Dev nD) : Nat :=
  let c0_i32_3017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3016 : BitVec 32 := 1#32
  let v2757 : BitVec 32 := Scalar.muli v101 c1_i32_3016
  let v2758 : BitVec 32 := Scalar.addi c0_i32_3017 v2757
  v2758.toNat
def k0_dev70 (d0 : Dev nD) : Nat :=
  let c0_i32_3058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3057 : BitVec 32 := 1#32
  let v2789 : BitVec 32 := Scalar.muli v65 c1_i32_3057
  let v2790 : BitVec 32 := Scalar.addi c0_i32_3058 v2789
  v2790.toNat
def k0_dev71 (d0 : Dev nD) : Nat :=
  let c0_i32_3099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3098 : BitVec 32 := 1#32
  let v2821 : BitVec 32 := Scalar.muli v101 c1_i32_3098
  let v2822 : BitVec 32 := Scalar.addi c0_i32_3099 v2821
  v2822.toNat
def k0_dev72 (d0 : Dev nD) : Nat :=
  let c0_i32_3140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3139 : BitVec 32 := 1#32
  let v2853 : BitVec 32 := Scalar.muli v65 c1_i32_3139
  let v2854 : BitVec 32 := Scalar.addi c0_i32_3140 v2853
  v2854.toNat
def k0_dev73 (d0 : Dev nD) : Nat :=
  let c0_i32_3181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3180 : BitVec 32 := 1#32
  let v2885 : BitVec 32 := Scalar.muli v101 c1_i32_3180
  let v2886 : BitVec 32 := Scalar.addi c0_i32_3181 v2885
  v2886.toNat
def k0_dev74 (d0 : Dev nD) : Nat :=
  let c0_i32_3222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3221 : BitVec 32 := 1#32
  let v2917 : BitVec 32 := Scalar.muli v65 c1_i32_3221
  let v2918 : BitVec 32 := Scalar.addi c0_i32_3222 v2917
  v2918.toNat
def k0_dev75 (d0 : Dev nD) : Nat :=
  let c0_i32_3309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3308 : BitVec 32 := 1#32
  let v3023 : BitVec 32 := Scalar.muli v101 c1_i32_3308
  let v3024 : BitVec 32 := Scalar.addi c0_i32_3309 v3023
  v3024.toNat
def k0_dev76 (d0 : Dev nD) : Nat :=
  let c0_i32_3350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3349 : BitVec 32 := 1#32
  let v3055 : BitVec 32 := Scalar.muli v65 c1_i32_3349
  let v3056 : BitVec 32 := Scalar.addi c0_i32_3350 v3055
  v3056.toNat
def k0_dev77 (d0 : Dev nD) : Nat :=
  let c0_i32_3391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3390 : BitVec 32 := 1#32
  let v3087 : BitVec 32 := Scalar.muli v101 c1_i32_3390
  let v3088 : BitVec 32 := Scalar.addi c0_i32_3391 v3087
  v3088.toNat
def k0_dev78 (d0 : Dev nD) : Nat :=
  let c0_i32_3432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3431 : BitVec 32 := 1#32
  let v3119 : BitVec 32 := Scalar.muli v65 c1_i32_3431
  let v3120 : BitVec 32 := Scalar.addi c0_i32_3432 v3119
  v3120.toNat
def k0_dev79 (d0 : Dev nD) : Nat :=
  let c0_i32_3473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3472 : BitVec 32 := 1#32
  let v3151 : BitVec 32 := Scalar.muli v101 c1_i32_3472
  let v3152 : BitVec 32 := Scalar.addi c0_i32_3473 v3151
  v3152.toNat
def k0_dev80 (d0 : Dev nD) : Nat :=
  let c0_i32_3514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3513 : BitVec 32 := 1#32
  let v3183 : BitVec 32 := Scalar.muli v65 c1_i32_3513
  let v3184 : BitVec 32 := Scalar.addi c0_i32_3514 v3183
  v3184.toNat
def k0_dev81 (d0 : Dev nD) : Nat :=
  let c0_i32_3555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3554 : BitVec 32 := 1#32
  let v3215 : BitVec 32 := Scalar.muli v101 c1_i32_3554
  let v3216 : BitVec 32 := Scalar.addi c0_i32_3555 v3215
  v3216.toNat
def k0_dev82 (d0 : Dev nD) : Nat :=
  let c0_i32_3596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3595 : BitVec 32 := 1#32
  let v3247 : BitVec 32 := Scalar.muli v65 c1_i32_3595
  let v3248 : BitVec 32 := Scalar.addi c0_i32_3596 v3247
  v3248.toNat
def k0_dev83 (d0 : Dev nD) : Nat :=
  let c0_i32_3683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3682 : BitVec 32 := 1#32
  let v3353 : BitVec 32 := Scalar.muli v101 c1_i32_3682
  let v3354 : BitVec 32 := Scalar.addi c0_i32_3683 v3353
  v3354.toNat
def k0_dev84 (d0 : Dev nD) : Nat :=
  let c0_i32_3724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3723 : BitVec 32 := 1#32
  let v3385 : BitVec 32 := Scalar.muli v65 c1_i32_3723
  let v3386 : BitVec 32 := Scalar.addi c0_i32_3724 v3385
  v3386.toNat
def k0_dev85 (d0 : Dev nD) : Nat :=
  let c0_i32_3765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3764 : BitVec 32 := 1#32
  let v3417 : BitVec 32 := Scalar.muli v101 c1_i32_3764
  let v3418 : BitVec 32 := Scalar.addi c0_i32_3765 v3417
  v3418.toNat
def k0_dev86 (d0 : Dev nD) : Nat :=
  let c0_i32_3806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3805 : BitVec 32 := 1#32
  let v3449 : BitVec 32 := Scalar.muli v65 c1_i32_3805
  let v3450 : BitVec 32 := Scalar.addi c0_i32_3806 v3449
  v3450.toNat
def k0_dev87 (d0 : Dev nD) : Nat :=
  let c0_i32_3847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3846 : BitVec 32 := 1#32
  let v3481 : BitVec 32 := Scalar.muli v101 c1_i32_3846
  let v3482 : BitVec 32 := Scalar.addi c0_i32_3847 v3481
  v3482.toNat
def k0_dev88 (d0 : Dev nD) : Nat :=
  let c0_i32_3888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3887 : BitVec 32 := 1#32
  let v3513 : BitVec 32 := Scalar.muli v65 c1_i32_3887
  let v3514 : BitVec 32 := Scalar.addi c0_i32_3888 v3513
  v3514.toNat
def k0_dev89 (d0 : Dev nD) : Nat :=
  let c0_i32_3929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_3928 : BitVec 32 := 1#32
  let v3545 : BitVec 32 := Scalar.muli v101 c1_i32_3928
  let v3546 : BitVec 32 := Scalar.addi c0_i32_3929 v3545
  v3546.toNat
def k0_dev90 (d0 : Dev nD) : Nat :=
  let c0_i32_3970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_3969 : BitVec 32 := 1#32
  let v3577 : BitVec 32 := Scalar.muli v65 c1_i32_3969
  let v3578 : BitVec 32 := Scalar.addi c0_i32_3970 v3577
  v3578.toNat
def k0_dev91 (d0 : Dev nD) : Nat :=
  let c0_i32_4057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4056 : BitVec 32 := 1#32
  let v3683 : BitVec 32 := Scalar.muli v101 c1_i32_4056
  let v3684 : BitVec 32 := Scalar.addi c0_i32_4057 v3683
  v3684.toNat
def k0_dev92 (d0 : Dev nD) : Nat :=
  let c0_i32_4098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4097 : BitVec 32 := 1#32
  let v3715 : BitVec 32 := Scalar.muli v65 c1_i32_4097
  let v3716 : BitVec 32 := Scalar.addi c0_i32_4098 v3715
  v3716.toNat
def k0_dev93 (d0 : Dev nD) : Nat :=
  let c0_i32_4139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4138 : BitVec 32 := 1#32
  let v3747 : BitVec 32 := Scalar.muli v101 c1_i32_4138
  let v3748 : BitVec 32 := Scalar.addi c0_i32_4139 v3747
  v3748.toNat
def k0_dev94 (d0 : Dev nD) : Nat :=
  let c0_i32_4180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4179 : BitVec 32 := 1#32
  let v3779 : BitVec 32 := Scalar.muli v65 c1_i32_4179
  let v3780 : BitVec 32 := Scalar.addi c0_i32_4180 v3779
  v3780.toNat
def k0_dev95 (d0 : Dev nD) : Nat :=
  let c0_i32_4221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4220 : BitVec 32 := 1#32
  let v3811 : BitVec 32 := Scalar.muli v101 c1_i32_4220
  let v3812 : BitVec 32 := Scalar.addi c0_i32_4221 v3811
  v3812.toNat
def k0_dev96 (d0 : Dev nD) : Nat :=
  let c0_i32_4262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4261 : BitVec 32 := 1#32
  let v3843 : BitVec 32 := Scalar.muli v65 c1_i32_4261
  let v3844 : BitVec 32 := Scalar.addi c0_i32_4262 v3843
  v3844.toNat
def k0_dev97 (d0 : Dev nD) : Nat :=
  let c0_i32_4303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4302 : BitVec 32 := 1#32
  let v3875 : BitVec 32 := Scalar.muli v101 c1_i32_4302
  let v3876 : BitVec 32 := Scalar.addi c0_i32_4303 v3875
  v3876.toNat
def k0_dev98 (d0 : Dev nD) : Nat :=
  let c0_i32_4344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4343 : BitVec 32 := 1#32
  let v3907 : BitVec 32 := Scalar.muli v65 c1_i32_4343
  let v3908 : BitVec 32 := Scalar.addi c0_i32_4344 v3907
  v3908.toNat
def k0_dev99 (d0 : Dev nD) : Nat :=
  let c0_i32_4431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4430 : BitVec 32 := 1#32
  let v4013 : BitVec 32 := Scalar.muli v101 c1_i32_4430
  let v4014 : BitVec 32 := Scalar.addi c0_i32_4431 v4013
  v4014.toNat
def k0_dev100 (d0 : Dev nD) : Nat :=
  let c0_i32_4472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4471 : BitVec 32 := 1#32
  let v4045 : BitVec 32 := Scalar.muli v65 c1_i32_4471
  let v4046 : BitVec 32 := Scalar.addi c0_i32_4472 v4045
  v4046.toNat
def k0_dev101 (d0 : Dev nD) : Nat :=
  let c0_i32_4513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4512 : BitVec 32 := 1#32
  let v4077 : BitVec 32 := Scalar.muli v101 c1_i32_4512
  let v4078 : BitVec 32 := Scalar.addi c0_i32_4513 v4077
  v4078.toNat
def k0_dev102 (d0 : Dev nD) : Nat :=
  let c0_i32_4554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4553 : BitVec 32 := 1#32
  let v4109 : BitVec 32 := Scalar.muli v65 c1_i32_4553
  let v4110 : BitVec 32 := Scalar.addi c0_i32_4554 v4109
  v4110.toNat
def k0_dev103 (d0 : Dev nD) : Nat :=
  let c0_i32_4595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4594 : BitVec 32 := 1#32
  let v4141 : BitVec 32 := Scalar.muli v101 c1_i32_4594
  let v4142 : BitVec 32 := Scalar.addi c0_i32_4595 v4141
  v4142.toNat
def k0_dev104 (d0 : Dev nD) : Nat :=
  let c0_i32_4636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4635 : BitVec 32 := 1#32
  let v4173 : BitVec 32 := Scalar.muli v65 c1_i32_4635
  let v4174 : BitVec 32 := Scalar.addi c0_i32_4636 v4173
  v4174.toNat
def k0_dev105 (d0 : Dev nD) : Nat :=
  let c0_i32_4677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4676 : BitVec 32 := 1#32
  let v4205 : BitVec 32 := Scalar.muli v101 c1_i32_4676
  let v4206 : BitVec 32 := Scalar.addi c0_i32_4677 v4205
  v4206.toNat
def k0_dev106 (d0 : Dev nD) : Nat :=
  let c0_i32_4718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4717 : BitVec 32 := 1#32
  let v4237 : BitVec 32 := Scalar.muli v65 c1_i32_4717
  let v4238 : BitVec 32 := Scalar.addi c0_i32_4718 v4237
  v4238.toNat
def k0_dev107 (d0 : Dev nD) : Nat :=
  let c0_i32_4805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4804 : BitVec 32 := 1#32
  let v4343 : BitVec 32 := Scalar.muli v101 c1_i32_4804
  let v4344 : BitVec 32 := Scalar.addi c0_i32_4805 v4343
  v4344.toNat
def k0_dev108 (d0 : Dev nD) : Nat :=
  let c0_i32_4846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4845 : BitVec 32 := 1#32
  let v4375 : BitVec 32 := Scalar.muli v65 c1_i32_4845
  let v4376 : BitVec 32 := Scalar.addi c0_i32_4846 v4375
  v4376.toNat
def k0_dev109 (d0 : Dev nD) : Nat :=
  let c0_i32_4887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4886 : BitVec 32 := 1#32
  let v4407 : BitVec 32 := Scalar.muli v101 c1_i32_4886
  let v4408 : BitVec 32 := Scalar.addi c0_i32_4887 v4407
  v4408.toNat
def k0_dev110 (d0 : Dev nD) : Nat :=
  let c0_i32_4928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_4927 : BitVec 32 := 1#32
  let v4439 : BitVec 32 := Scalar.muli v65 c1_i32_4927
  let v4440 : BitVec 32 := Scalar.addi c0_i32_4928 v4439
  v4440.toNat
def k0_dev111 (d0 : Dev nD) : Nat :=
  let c0_i32_4969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_4968 : BitVec 32 := 1#32
  let v4471 : BitVec 32 := Scalar.muli v101 c1_i32_4968
  let v4472 : BitVec 32 := Scalar.addi c0_i32_4969 v4471
  v4472.toNat
def k0_dev112 (d0 : Dev nD) : Nat :=
  let c0_i32_5010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_5009 : BitVec 32 := 1#32
  let v4503 : BitVec 32 := Scalar.muli v65 c1_i32_5009
  let v4504 : BitVec 32 := Scalar.addi c0_i32_5010 v4503
  v4504.toNat
def k0_dev113 (d0 : Dev nD) : Nat :=
  let c0_i32_5051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_5050 : BitVec 32 := 1#32
  let v4535 : BitVec 32 := Scalar.muli v101 c1_i32_5050
  let v4536 : BitVec 32 := Scalar.addi c0_i32_5051 v4535
  v4536.toNat
def k0_dev114 (d0 : Dev nD) : Nat :=
  let c0_i32_5092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_5091 : BitVec 32 := 1#32
  let v4567 : BitVec 32 := Scalar.muli v65 c1_i32_5091
  let v4568 : BitVec 32 := Scalar.addi c0_i32_5092 v4567
  v4568.toNat
def k0_dev115 (d0 : Dev nD) : Nat :=
  let c0_i32_5179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_5178 : BitVec 32 := 1#32
  let v4673 : BitVec 32 := Scalar.muli v101 c1_i32_5178
  let v4674 : BitVec 32 := Scalar.addi c0_i32_5179 v4673
  v4674.toNat
def k0_dev116 (d0 : Dev nD) : Nat :=
  let c0_i32_5220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_5219 : BitVec 32 := 1#32
  let v4705 : BitVec 32 := Scalar.muli v65 c1_i32_5219
  let v4706 : BitVec 32 := Scalar.addi c0_i32_5220 v4705
  v4706.toNat
def k0_dev117 (d0 : Dev nD) : Nat :=
  let c0_i32_5261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_5260 : BitVec 32 := 1#32
  let v4737 : BitVec 32 := Scalar.muli v101 c1_i32_5260
  let v4738 : BitVec 32 := Scalar.addi c0_i32_5261 v4737
  v4738.toNat
def k0_dev118 (d0 : Dev nD) : Nat :=
  let c0_i32_5302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_5301 : BitVec 32 := 1#32
  let v4769 : BitVec 32 := Scalar.muli v65 c1_i32_5301
  let v4770 : BitVec 32 := Scalar.addi c0_i32_5302 v4769
  v4770.toNat
def k0_dev119 (d0 : Dev nD) : Nat :=
  let c0_i32_5343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_5342 : BitVec 32 := 1#32
  let v4801 : BitVec 32 := Scalar.muli v101 c1_i32_5342
  let v4802 : BitVec 32 := Scalar.addi c0_i32_5343 v4801
  v4802.toNat
def k0_dev120 (d0 : Dev nD) : Nat :=
  let c0_i32_5384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_5383 : BitVec 32 := 1#32
  let v4833 : BitVec 32 := Scalar.muli v65 c1_i32_5383
  let v4834 : BitVec 32 := Scalar.addi c0_i32_5384 v4833
  v4834.toNat
def k0_dev121 (d0 : Dev nD) : Nat :=
  let c0_i32_5425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_29 : BitVec 32 := 1#32
  let v66 : BitVec 32 := Scalar.addi v29 c1_i32_29
  let c32_i32_30 : BitVec 32 := 32#32
  let v67 : BitVec 32 := Scalar.addi v66 c32_i32_30
  let c16_i32_31 : BitVec 32 := 16#32
  let v68 : BitVec 32 := Scalar.remsi v67 c16_i32_31
  let c0_i32_33 : BitVec 32 := 0#32
  let v70 : BitVec 1 := Scalar.cmpi .sgt v68 c0_i32_33
  let v71 : BitVec 32 := Scalar.extui v70
  let c0_i32_34 : BitVec 32 := 0#32
  let v72 : BitVec 1 := Scalar.cmpi .slt v68 c0_i32_34
  let v73 : BitVec 32 := Scalar.extui v72
  let v74 : BitVec 32 := Scalar.subi v71 v73
  let c4_i32_32 : BitVec 32 := 4#32
  let c0_i32_35 : BitVec 32 := 0#32
  let v75 : BitVec 1 := Scalar.cmpi .sgt c4_i32_32 c0_i32_35
  let v76 : BitVec 32 := Scalar.extui v75
  let c0_i32_36 : BitVec 32 := 0#32
  let v77 : BitVec 1 := Scalar.cmpi .slt c4_i32_32 c0_i32_36
  let v78 : BitVec 32 := Scalar.extui v77
  let v79 : BitVec 32 := Scalar.subi v76 v78
  let v80 : BitVec 1 := Scalar.cmpi .ne v74 v79
  let v81 : BitVec 32 := Scalar.remsi v68 c4_i32_32
  let c0_i32_37 : BitVec 32 := 0#32
  let v82 : BitVec 1 := Scalar.cmpi .ne v81 c0_i32_37
  let v83 : BitVec 1 := Scalar.andi v80 v82
  let v69 : BitVec 32 := Scalar.divsi v68 c4_i32_32
  let c1_i32_38 : BitVec 32 := 1#32
  let v84 : BitVec 32 := Scalar.subi v69 c1_i32_38
  let v85 : BitVec 32 := Scalar.select v83 v84 v69
  let c0_i32_40 : BitVec 32 := 0#32
  let v87 : BitVec 1 := Scalar.cmpi .eq v85 c0_i32_40
  let c4_i32_41 : BitVec 32 := 4#32
  let c4_i32_39 : BitVec 32 := 4#32
  let v86 : BitVec 32 := Scalar.remsi v68 c4_i32_39
  let v88 : BitVec 32 := Scalar.muli c4_i32_41 v86
  let c1_i32_42 : BitVec 32 := 1#32
  let v89 : BitVec 1 := Scalar.cmpi .eq v85 c1_i32_42
  let c4_i32_44 : BitVec 32 := 4#32
  let c3_i32_43 : BitVec 32 := 3#32
  let v90 : BitVec 32 := Scalar.subi c3_i32_43 v86
  let v91 : BitVec 32 := Scalar.muli c4_i32_44 v90
  let c1_i32_45 : BitVec 32 := 1#32
  let v92 : BitVec 32 := Scalar.addi v91 c1_i32_45
  let c2_i32_46 : BitVec 32 := 2#32
  let v93 : BitVec 1 := Scalar.cmpi .eq v85 c2_i32_46
  let c4_i32_47 : BitVec 32 := 4#32
  let v94 : BitVec 32 := Scalar.muli c4_i32_47 v86
  let c2_i32_48 : BitVec 32 := 2#32
  let v95 : BitVec 32 := Scalar.addi v94 c2_i32_48
  let c4_i32_50 : BitVec 32 := 4#32
  let c3_i32_49 : BitVec 32 := 3#32
  let v96 : BitVec 32 := Scalar.subi c3_i32_49 v86
  let v97 : BitVec 32 := Scalar.muli c4_i32_50 v96
  let c3_i32_51 : BitVec 32 := 3#32
  let v98 : BitVec 32 := Scalar.addi v97 c3_i32_51
  let v99 : BitVec 32 := Scalar.select v93 v95 v98
  let v100 : BitVec 32 := Scalar.select v89 v92 v99
  let v101 : BitVec 32 := Scalar.select v87 v88 v100
  let c1_i32_5424 : BitVec 32 := 1#32
  let v4865 : BitVec 32 := Scalar.muli v101 c1_i32_5424
  let v4866 : BitVec 32 := Scalar.addi c0_i32_5425 v4865
  v4866.toNat
def k0_dev122 (d0 : Dev nD) : Nat :=
  let c0_i32_5466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_6 : BitVec 32 := 0#32
  let v21 : BitVec 1 := Scalar.cmpi .eq v3 c0_i32_6
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_7 : BitVec 32 := 1#32
  let v22 : BitVec 1 := Scalar.cmpi .eq v3 c1_i32_7
  let c7_i32 : BitVec 32 := 7#32
  let v23 : BitVec 32 := Scalar.subi c7_i32 v20
  let c2_i32 : BitVec 32 := 2#32
  let v24 : BitVec 1 := Scalar.cmpi .eq v3 c2_i32
  let c8_i32 : BitVec 32 := 8#32
  let v25 : BitVec 32 := Scalar.addi c8_i32 v20
  let c15_i32 : BitVec 32 := 15#32
  let v26 : BitVec 32 := Scalar.subi c15_i32 v20
  let v27 : BitVec 32 := Scalar.select v24 v25 v26
  let v28 : BitVec 32 := Scalar.select v22 v23 v27
  let v29 : BitVec 32 := Scalar.select v21 v20 v28
  let c1_i32_8 : BitVec 32 := 1#32
  let v30 : BitVec 32 := Scalar.subi v29 c1_i32_8
  let c32_i32 : BitVec 32 := 32#32
  let v31 : BitVec 32 := Scalar.addi v30 c32_i32
  let c16_i32_9 : BitVec 32 := 16#32
  let v32 : BitVec 32 := Scalar.remsi v31 c16_i32_9
  let c0_i32_11 : BitVec 32 := 0#32
  let v34 : BitVec 1 := Scalar.cmpi .sgt v32 c0_i32_11
  let v35 : BitVec 32 := Scalar.extui v34
  let c0_i32_12 : BitVec 32 := 0#32
  let v36 : BitVec 1 := Scalar.cmpi .slt v32 c0_i32_12
  let v37 : BitVec 32 := Scalar.extui v36
  let v38 : BitVec 32 := Scalar.subi v35 v37
  let c4_i32_10 : BitVec 32 := 4#32
  let c0_i32_13 : BitVec 32 := 0#32
  let v39 : BitVec 1 := Scalar.cmpi .sgt c4_i32_10 c0_i32_13
  let v40 : BitVec 32 := Scalar.extui v39
  let c0_i32_14 : BitVec 32 := 0#32
  let v41 : BitVec 1 := Scalar.cmpi .slt c4_i32_10 c0_i32_14
  let v42 : BitVec 32 := Scalar.extui v41
  let v43 : BitVec 32 := Scalar.subi v40 v42
  let v44 : BitVec 1 := Scalar.cmpi .ne v38 v43
  let v45 : BitVec 32 := Scalar.remsi v32 c4_i32_10
  let c0_i32_15 : BitVec 32 := 0#32
  let v46 : BitVec 1 := Scalar.cmpi .ne v45 c0_i32_15
  let v47 : BitVec 1 := Scalar.andi v44 v46
  let v33 : BitVec 32 := Scalar.divsi v32 c4_i32_10
  let c1_i32_16 : BitVec 32 := 1#32
  let v48 : BitVec 32 := Scalar.subi v33 c1_i32_16
  let v49 : BitVec 32 := Scalar.select v47 v48 v33
  let c0_i32_18 : BitVec 32 := 0#32
  let v51 : BitVec 1 := Scalar.cmpi .eq v49 c0_i32_18
  let c4_i32_19 : BitVec 32 := 4#32
  let c4_i32_17 : BitVec 32 := 4#32
  let v50 : BitVec 32 := Scalar.remsi v32 c4_i32_17
  let v52 : BitVec 32 := Scalar.muli c4_i32_19 v50
  let c1_i32_20 : BitVec 32 := 1#32
  let v53 : BitVec 1 := Scalar.cmpi .eq v49 c1_i32_20
  let c4_i32_21 : BitVec 32 := 4#32
  let c3_i32 : BitVec 32 := 3#32
  let v54 : BitVec 32 := Scalar.subi c3_i32 v50
  let v55 : BitVec 32 := Scalar.muli c4_i32_21 v54
  let c1_i32_22 : BitVec 32 := 1#32
  let v56 : BitVec 32 := Scalar.addi v55 c1_i32_22
  let c2_i32_23 : BitVec 32 := 2#32
  let v57 : BitVec 1 := Scalar.cmpi .eq v49 c2_i32_23
  let c4_i32_24 : BitVec 32 := 4#32
  let v58 : BitVec 32 := Scalar.muli c4_i32_24 v50
  let c2_i32_25 : BitVec 32 := 2#32
  let v59 : BitVec 32 := Scalar.addi v58 c2_i32_25
  let c4_i32_27 : BitVec 32 := 4#32
  let c3_i32_26 : BitVec 32 := 3#32
  let v60 : BitVec 32 := Scalar.subi c3_i32_26 v50
  let v61 : BitVec 32 := Scalar.muli c4_i32_27 v60
  let c3_i32_28 : BitVec 32 := 3#32
  let v62 : BitVec 32 := Scalar.addi v61 c3_i32_28
  let v63 : BitVec 32 := Scalar.select v57 v59 v62
  let v64 : BitVec 32 := Scalar.select v53 v56 v63
  let v65 : BitVec 32 := Scalar.select v51 v52 v64
  let c1_i32_5465 : BitVec 32 := 1#32
  let v4897 : BitVec 32 := Scalar.muli v65 c1_i32_5465
  let v4898 : BitVec 32 := Scalar.addi c0_i32_5466 v4897
  v4898.toNat
def k0_off11 (d0 : Dev nD) : Fin 3 → Nat :=
  let c0_5494 : Index := 0#32
  let c0_5495 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5493 : BitVec 32 := 512#32
  let v4922 : BitVec 32 := Scalar.muli v2 c512_i32_5493
  let v4923 : Index := Scalar.indexCast v4922
  ![0, 0, v4923.toNat]
def k0_off12 (d0 : Dev nD) : Fin 3 → Nat :=
  let c0_5518 : Index := 0#32
  let c256_5519 : Index := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5517 : BitVec 32 := 512#32
  let v4942 : BitVec 32 := Scalar.muli v2 c512_i32_5517
  let v4943 : Index := Scalar.indexCast v4942
  ![0, 256, v4943.toNat]
def k0_off13 (d0 : Dev nD) : Fin 3 → Nat :=
  let c0_5542 : Index := 0#32
  let c64_5543 : Index := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5541 : BitVec 32 := 512#32
  let v4962 : BitVec 32 := Scalar.muli v2 c512_i32_5541
  let v4963 : Index := Scalar.indexCast v4962
  ![0, 64, v4963.toNat]
def k0_off14 (d0 : Dev nD) : Fin 3 → Nat :=
  let c0_5566 : Index := 0#32
  let c320_5567 : Index := 320#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5565 : BitVec 32 := 512#32
  let v4982 : BitVec 32 := Scalar.muli v2 c512_i32_5565
  let v4983 : Index := Scalar.indexCast v4982
  ![0, 320, v4983.toNat]
def k0_off15 (d0 : Dev nD) : Fin 3 → Nat :=
  let c0_5590 : Index := 0#32
  let c128_5591 : Index := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5589 : BitVec 32 := 512#32
  let v5002 : BitVec 32 := Scalar.muli v2 c512_i32_5589
  let v5003 : Index := Scalar.indexCast v5002
  ![0, 128, v5003.toNat]
def k0_off16 (d0 : Dev nD) : Fin 3 → Nat :=
  let c0_5614 : Index := 0#32
  let c384_5615 : Index := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5613 : BitVec 32 := 512#32
  let v5022 : BitVec 32 := Scalar.muli v2 c512_i32_5613
  let v5023 : Index := Scalar.indexCast v5022
  ![0, 384, v5023.toNat]
def k0_off17 (d0 : Dev nD) : Fin 3 → Nat :=
  let c0_5638 : Index := 0#32
  let c192_5639 : Index := 192#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5637 : BitVec 32 := 512#32
  let v5042 : BitVec 32 := Scalar.muli v2 c512_i32_5637
  let v5043 : Index := Scalar.indexCast v5042
  ![0, 192, v5043.toNat]
def k0_off18 (d0 : Dev nD) : Fin 3 → Nat :=
  let c0_5662 : Index := 0#32
  let c448_5663 : Index := 448#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_5661 : BitVec 32 := 512#32
  let v5062 : BitVec 32 := Scalar.muli v2 c512_i32_5661
  let v5063 : Index := Scalar.indexCast v5062
  ![0, 448, v5063.toNat]
abbrev stage0_0 : Fin 1 → Memref sig .tc .vmem S1x512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x512x8192 : Shape := ⟨3, ![16, 512, 8192]⟩
abbrev S_ : Shape := ⟨0, ![]⟩
abbrev S512x8192 : Shape := ⟨2, ![512, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16x512x8192, .bf16⟩
  | .hbm, ⟨1, _⟩ => ⟨S16x512x8192, .f32⟩
  | .hbm, ⟨2, _⟩ => ⟨S_, .f32⟩
  | .hbm, ⟨3, _⟩ => ⟨S512x8192, .f32⟩
  | .hbm, ⟨4, _⟩ => ⟨S512x8192, .bf16⟩
  | .hbm, ⟨5, _⟩ => ⟨S512x8192, .f32⟩
  | _, _ => ⟨S16x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.IdealCanon.lean ====
/-
# The kernel as its steps

The 120 transfers of a device (fifteen steps, four row blocks, two directions) are numbered in the order in which they
are started. `canon` is the kernel as loops over that number, and `body_eq` says that the printed body is `canon`.
-/
module

public import proofs.«01_k».proof.Proof.Gen.KernelIdeal
public import Idealize.ShloMosaic.Lib.Tactic

@[expose] public section

set_option maxRecDepth 16384

noncomputable section

namespace Cert.KernelIdeal.Hop

open Cert.KernelIdeal Cert.KernelIdeal.Gen
open Idealize.ShloMosaic Idealize.ShloMosaic.TcCoe
open Idealize.SL.Sem

variable {F : FTy → Type} [FloatOps F]

/-- A program of the kernel. -/
abbrev KProg (F : FTy → Type) : Type 1 := Prog (TpuEff nD τ sig (Elt F) Λ₀ .tc) PUnit

/-! ## The indices of a transfer -/

/-- The direction of transfer `i`: even to the right neighbour, odd to the left one. -/
def dir (i : ℕ) : Bool := Nat.beq (i % 2) 1
/-- The row block (of 64 rows) of transfer `i`. -/
def blk (i : ℕ) : Fin 4 := ⟨(i / 2) % 4, Nat.mod_lt _ (by decide)⟩
/-- The slot that transfer `i` lands in. -/
def dslot (i : Fin 120) : Fin 16 := ⟨i.val / 8, by omega⟩
/-- The slot that transfer `i` is sent from: the fifteenth at step 0, afterwards the one that the step before filled. -/
def sslot (i : Fin 120) : Fin 16 := ⟨(i.val / 8 + 15) % 16, Nat.mod_lt _ (by decide)⟩

/-! ## Buffers, rectangles, semaphores -/

/-- The device's own operand `x`. -/
abbrev xM : Memref sig .tc .vmem S1x512x8192 .bf16 := Memref.whole cc0_stg0_0
/-- The device's result. -/
abbrev oM : Memref sig .tc .vmem S512x512 .f32 := Memref.whole cc0_stg1_0
/-- The landing buffer of a direction. -/
def buf : Bool → Memref sig .tc .vmem S16x256x512 .bf16
  | false => Memref.whole cc0_scratch0
  | true => Memref.whole cc0_scratch1

/-- A landing buffer is the whole of its allocation. -/
theorem buf_whole (b : Bool) : (buf b).IsWhole := by cases b <;> exact Memref.isWhole_whole _

/-- Every block lies inside its landing buffer. -/
theorem slab_inb : ∀ (t : Fin 16) (j : Fin 4), ∀ a, (![t.val, 64 * j.val, 0] : Fin 3 → ℕ) a + S1x64x512.size a ≤ S16x256x512.size a := by decide
/-- Block `j` of slot `t`. -/
def slabR (t : Fin 16) (j : Fin 4) : Rect S16x256x512 := Rect.unit (s := S16x256x512) ![t.val, 64 * j.val, 0] S1x64x512.size (slab_inb t j)
/-- A block begins and ends on whole words, -/
theorem slab_words : ∀ (t : Fin 16) (j : Fin 4), (slabR t j).WholeWords (EltTy.packing .bf16) := by decide
/-- and on whole packed rows. -/
theorem slab_packed : ∀ (t : Fin 16) (j : Fin 4), (slabR t j).PackedRows (EltTy.packing .bf16) := by decide
/-- The view of block `j` of slot `t` of direction `b`'s landing buffer: what a transfer moves. -/
def slab (b : Bool) (t : Fin 16) (j : Fin 4) : Memref sig .tc .vmem S64x512 .bf16 :=
  ((buf b).slice (slabR t j) (fun _ => rfl)).squeeze S64x512 squeezes_S1x64x512_S64x512
/-- A transfer of a block moves whole words only. -/
theorem slab_exact (b : Bool) (t : Fin 16) (j : Fin 4) : (slab b t j).view.WordExact :=
  ((buf_whole b).wordExact_slice rfl _ (slab_words t j)).reshape _ _

/-- Every step and block has a place in a semaphore array. -/
theorem sem_inb : ∀ (s : Fin 15) (j : Fin 4), ∀ a, (![s.val, j.val] : Fin 2 → ℕ) a + S1x1.size a ≤ S15x4.size a := by decide
/-- The step of transfer `i`, of fifteen. -/
def step (i : Fin 120) : Fin 15 := ⟨i.val / 8, by omega⟩
/-- The semaphore of step `s` and block `j` in the array `A`. -/
def semAt (A : DmaSems sig S15x4) (s : Fin 15) (j : Fin 4) : DmaSem sig :=
  ((A.slice (Rect.unit (s := S15x4) ![s.val, j.val] S1x1.size (sem_inb s j))).squeeze S_ squeezes_S1x1_S_).sem
/-- The departure semaphores of a direction, -/
def sndArr : Bool → DmaSems sig S15x4
  | false => cc0_scratch2
  | true => cc0_scratch4
/-- and its arrival semaphores. -/
def rcvArr : Bool → DmaSems sig S15x4
  | false => cc0_scratch3
  | true => cc0_scratch5
/-- The semaphore that counts transfer `i`'s departure. -/
def sndS (i : Fin 120) : DmaSem sig := semAt (sndArr (dir i)) (step i) (blk i)
/-- The semaphore that counts transfer `i`'s arrival. -/
def rcvS (i : Fin 120) : DmaSem sig := semAt (rcvArr (dir i)) (step i) (blk i)
/-- The barrier semaphore. -/
abbrev barS : Sem sig := (SemArray.scalar (sig.barrier 0 rfl) : Sems sig S_).sem

/-! ## What the kernel computes from its device number -/

/-- The neighbour that direction `b` sends to. -/
def tgt (b : Bool) (d : Dev nD) : Dev nD :=
  match b with
  | false => ⟨k0_dev3 d, k0_dev3_lt d⟩
  | true => ⟨k0_dev4 d, k0_dev4_lt d⟩

/-- Where the columns that are added before a later step start. -/
def xoffW (b : Bool) (j : Fin 4) (d : Dev nD) (w : BitVec 32) : Fin 3 → ℕ :=
  match b, j with
  | false, ⟨0, _⟩ => k0_off3 d w
  | true, ⟨0, _⟩ => k0_off4 d w
  | false, ⟨1, _⟩ => k0_off5 d w
  | true, ⟨1, _⟩ => k0_off6 d w
  | false, ⟨2, _⟩ => k0_off7 d w
  | true, ⟨2, _⟩ => k0_off8 d w
  | false, ⟨3, _⟩ => k0_off9 d w
  | true, ⟨3, _⟩ => k0_off10 d w
/-- Where the device's own columns start. -/
def ooffW (b : Bool) (j : Fin 4) (d : Dev nD) : Fin 3 → ℕ :=
  match b, j with
  | false, ⟨0, _⟩ => k0_off11 d
  | true, ⟨0, _⟩ => k0_off12 d
  | false, ⟨1, _⟩ => k0_off13 d
  | true, ⟨1, _⟩ => k0_off14 d
  | false, ⟨2, _⟩ => k0_off15 d
  | true, ⟨2, _⟩ => k0_off16 d
  | false, ⟨3, _⟩ => k0_off17 d
  | true, ⟨3, _⟩ => k0_off18 d
/-- Where the columns that step 0 sends start. -/
def foffW (b : Bool) (d : Dev nD) : Fin 3 → ℕ :=
  match b with
  | false => k0_off1 d
  | true => k0_off2 d

/-- The columns added before a later step lie inside `x`, -/
theorem xoffW_inb (b : Bool) (j : Fin 4) (d : Dev nD) (s : Fin 14) : ∀ a, xoffW b j d (BitVec.ofNat 32 (s.val + 1)) a + S1x64x512.size a ≤ S1x512x8192.size a := by
  revert b j d s; decide +kernel
/-- so do the device's own, -/
theorem ooffW_inb (b : Bool) (j : Fin 4) (d : Dev nD) : ∀ a, ooffW b j d a + S1x64x512.size a ≤ S1x512x8192.size a := by
  revert b j d; decide +kernel
/-- and those that step 0 sends. -/
theorem foffW_inb (b : Bool) (d : Dev nD) : ∀ a, foffW b d a + S1x256x512.size a ≤ S1x512x8192.size a := by
  revert b d; decide +kernel

/-- The columns of `x` added to what is sent on at step `s + 1`. -/
def xR (b : Bool) (j : Fin 4) (d : Dev nD) (s : Fin 14) : Rect S1x512x8192 :=
  Rect.unit (s := S1x512x8192) (xoffW b j d (BitVec.ofNat 32 (s.val + 1))) S1x64x512.size (xoffW_inb b j d s)
/-- The device's own columns. -/
def oxR (b : Bool) (j : Fin 4) (d : Dev nD) : Rect S1x512x8192 :=
  Rect.unit (s := S1x512x8192) (ooffW b j d) S1x64x512.size (ooffW_inb b j d)
/-- The columns that step 0 sends. -/
def fxR (b : Bool) (d : Dev nD) : Rect S1x512x8192 :=
  Rect.unit (s := S1x512x8192) (foffW b d) S1x256x512.size (foffW_inb b d)
/-- Slot fifteen, whole. -/
def topR : Rect S16x256x512 := Rect.unit (s := S16x256x512) ![15, 0, 0] S1x256x512.size inb_S16x256x512_S1x256x512_15_0_0

/-- The rows that a block makes lie inside the result. -/
theorem oR_inb : ∀ (b : Bool) (j : Fin 4), ∀ a, (![(if b then 256 else 0) + 64 * j.val, 0] : Fin 2 → ℕ) a + S64x512.size a ≤ S512x512.size a := by decide
/-- The rows of the result that block `j` of direction `b` makes. -/
def oR (b : Bool) (j : Fin 4) : Rect S512x512 := Rect.unit (s := S512x512) ![(if b then 256 else 0) + 64 * j.val, 0] S64x512.size (oR_inb b j)

/-! ## The values computed -/

/-- What is stored back after a landing: the landed block plus the device's own one. -/
def addPay (v w : Vec F S1x64x512 .bf16) : FVec F S1x64x512 .bf16 :=
  shapeCast S1x64x512 (addf (shapeCast S64x512 v shapeCasts_S1x64x512_S64x512) (shapeCast S64x512 w shapeCasts_S1x64x512_S64x512)) shapeCasts_S64x512_S1x64x512
/-- What is stored into the result: the same sum, in float32. -/
def outPay (v w : Vec F S1x64x512 .bf16) : FVec F S64x512 .f32 :=
  addf (extf .f32 (shapeCast S64x512 v shapeCasts_S1x64x512_S64x512) bitsLt_bf16_f32) (extf .f32 (shapeCast S64x512 w shapeCasts_S1x64x512_S64x512) bitsLt_bf16_f32)
/-- What is stored into slot fifteen: the block of `x` as it is. -/
def fillPay (v : Vec F S1x256x512 .bf16) : FVec F S1x256x512 .bf16 :=
  shapeCast S1x256x512 (shapeCast S256x512 v shapeCasts_S1x256x512_S256x512) shapeCasts_S256x512_S1x256x512

/-! ## The steps, each before what follows it -/

/-- Transfer `i`. -/
def sendK (d : Dev nD) (i : Fin 120) (k : KProg F) : KProg F :=
  .op (.enqueueDma (slab (dir i) (sslot i) (blk i)) (.remote (Dev.tc (tgt (dir i) d)) (slab (dir i) (dslot i) (blk i)) (.dma (sndS i))) (.dma (rcvS i))
    (slab_exact _ _ _) (slab_exact _ _ _) ⟨⟨rfl, Or.inl rfl⟩, trivial⟩) fun _ => k
/-- The wait for transfer `i` of the neighbour to have landed here. -/
def recvK (i : Fin 120) (k : KProg F) : KProg F :=
  .op (.waitDma2 (rcvS i) (slab (dir i) (sslot i) (blk i)) (slab (dir i) (dslot i) (blk i)) (slab_exact _ _ _) (slab_exact _ _ _)) fun _ => k
/-- The wait for transfer `i` to have been read out. -/
def sentK (i : Fin 120) (k : KProg F) : KProg F :=
  .op (.waitDma2 (sndS i) (slab (dir i) (dslot i) (blk i)) (slab (dir i) (sslot i) (blk i)) (slab_exact _ _ _) (slab_exact _ _ _)) fun _ => k
/-- The fill of slot fifteen. -/
def fillK (d : Dev nD) (b : Bool) (k : KProg F) : KProg F :=
  .op (.load xM (fxR b d).toLoadRect (View.loadsAt_vmem h_S1x256x512)) fun v =>
  .op (.load (buf b) topR.toLoadRect (View.loadsAt_vmem h_S1x256x512)) fun _ =>
  .op (.store (buf b) topR (fillPay v) Finset.univ
    (View.stores_vmem h_S1x256x512 ((buf_whole b).storeExact_slice rfl _ packedbf16_S16x256x512_S1x256x512_15_0_0) (fun _ => rfl)) (.inl rfl)) fun _ => k

/-- What transfer `i` was the landing of, with the device's own columns added, sent on as transfer `i + 8`. -/
def passK (d : Dev nD) (k' : Fin 112) (k : KProg F) : KProg F :=
  let i : Fin 120 := ⟨k'.val, by omega⟩
  let i' : Fin 120 := ⟨k'.val + 8, by omega⟩
  recvK i (
  .op (.load (buf (dir i)) (slabR (dslot i) (blk i)).toLoadRect (View.loadsAt_vmem h_S1x64x512)) fun v =>
  .op (.load xM (xR (dir i) (blk i) d ⟨k'.val / 8, by omega⟩).toLoadRect (View.loadsAt_vmem h_S1x64x512)) fun w =>
  .op (.load (buf (dir i)) (slabR (dslot i) (blk i)).toLoadRect (View.loadsAt_vmem h_S1x64x512)) fun _ =>
  .op (.store (buf (dir i)) (slabR (dslot i) (blk i)) (addPay v w) Finset.univ
    (View.stores_vmem h_S1x64x512 ((buf_whole _).storeExact_slice rfl _ (slab_packed _ _)) (fun _ => rfl)) (.inl rfl)) fun _ =>
  sendK d i' k)
/-- The last landing with the device's own columns added, into the result. -/
def lastK (d : Dev nD) (k' : Fin 8) (k : KProg F) : KProg F :=
  let i : Fin 120 := ⟨k'.val + 112, by omega⟩
  recvK i (
  .op (.load (buf (dir i)) (slabR (dslot i) (blk i)).toLoadRect (View.loadsAt_vmem h_S1x64x512)) fun v =>
  .op (.load xM (oxR (dir i) (blk i) d).toLoadRect (View.loadsAt_vmem h_S1x64x512)) fun w =>
  .op (.load oM (oR (dir i) (blk i)).toLoadRect (View.loadsAt_vmem h_S64x512)) fun _ =>
  .op (.store oM (oR (dir i) (blk i)) (outPay v w) Finset.univ (View.stores_vmem_bits_univ h_S64x512 rfl) (.inl rfl)) fun _ => k)

/-- `n` steps in order, then `k`. -/
def loop : (n : ℕ) → (Fin n → KProg F → KProg F) → KProg F → KProg F
  | 0, _, k => k
  | n + 1, f, k => f 0 (loop n (fun i => f i.succ) k)

/-- The kernel as its steps, on device `d`. -/
def canonAt (d : Dev nD) : KProg F :=
  .op (.semSignal (Dev.tc ⟨k0_dev1 d, k0_dev1_lt d⟩) barS 1) fun _ =>
  .op (.semSignal (Dev.tc ⟨k0_dev2 d, k0_dev2_lt d⟩) barS 1) fun _ =>
  .op (.semWait barS 2) fun _ =>
  fillK d false <| fillK d true <|
  loop 8 (fun i => sendK d ⟨i.val, by omega⟩) <|
  loop 112 (passK d) <|
  loop 8 (lastK d) <|
  loop 120 sentK <|
  .ret ⟨⟩

/-- The kernel as its steps. -/
def canon : KProg F := .op .deviceId canonAt

/-- The printed kernel body is these steps. -/
theorem body_eq : cc0_body (F := F) xM (Memref.isWhole_whole _) oM (Memref.isWhole_whole _) (buf false) (buf_whole _) (buf true) (buf_whole _)
    cc0_scratch2 cc0_scratch3 cc0_scratch4 cc0_scratch5 = canon := by
  sl_kernel_rfl

end Cert.KernelIdeal.Hop
-- ==== Proof.IdealFacts.lean ====
/-
# The ring, the semaphores, the blocks of the landing buffers, the values that travel

Facts on the indices that `Canon` names: who is whose neighbour, that the semaphores are pairwise different, that a
landing buffer is the disjoint union of its 64 blocks, and the partial sums that the transfers carry.
-/
module

public import proofs.«01_k».proof.Proof.IdealCanon
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Pipeline.Value

@[expose] public section

set_option maxRecDepth 16384

noncomputable section

namespace Cert.KernelIdeal.Hop

open Cert.KernelIdeal Cert.KernelIdeal.Gen
open Idealize.ShloMosaic Idealize.ShloMosaic.TcCoe
open Idealize.SL.Sem

variable {F : FTy → Type} [FloatOps F]

/-! ## Neighbours -/

/-- The first signal goes to the left neighbour, -/
theorem dev1_eq (c : Dev nD) : (⟨k0_dev1 c, k0_dev1_lt c⟩ : Dev nD) = tgt true c := by revert c; decide +kernel
/-- the second to the right one. -/
theorem dev2_eq (c : Dev nD) : (⟨k0_dev2 c, k0_dev2_lt c⟩ : Dev nD) = tgt false c := by revert c; decide +kernel
/-- The left neighbour's right neighbour is the device itself, and the other way round. -/
theorem tgt_tgt (b : Bool) (c : Dev nD) : tgt (!b) (tgt b c) = c := by revert b c; decide +kernel
/-- The same, read from the other neighbour. -/
theorem tgt_tgt' (b : Bool) (c : Dev nD) : tgt b (tgt (!b) c) = c := by revert b c; decide +kernel

/-- Going round in direction `b`, as a permutation of the devices. -/
def around (b : Bool) : Dev nD ≃ Dev nD := ⟨tgt b, tgt (!b), tgt_tgt b, tgt_tgt' b⟩

/-! ## Semaphores -/

/-- Which of the kernel's semaphores: the barrier, or that transfer `i` has left (`(false, i)`) or has landed (`(true, i)`). -/
abbrev CI : Type := Option (Bool × Fin 120)

/-- The semaphore of a departure or of an arrival. -/
def semOf (k : Bool × Fin 120) : DmaSem sig := if k.1 then rcvS k.2 else sndS k.2
/-- Which departure or arrival a semaphore counts. -/
def tagD (q : DmaSem sig) : Option (Bool × Fin 120) :=
  if 2 ≤ q.val then
    some (Nat.beq ((q.val - 2) / 60 % 2) 1,
      ⟨8 * ((q.val - 2) % 60 / 4) + 2 * ((q.val - 2) % 60 % 4) + (q.val - 2) / 60 / 2 % 2, by omega⟩)
  else none

/-- A semaphore's number gives back which departure or arrival it counts. -/
theorem tagD_semOf : ∀ k, tagD (semOf k) = some k := by decide +kernel
/-- Each of these semaphores is the kernel's own, -/
theorem semOf_scoped : ∀ k, (SemLoc.dma (semOf k) : SemLoc sig).isScoped .tc = true := by decide +kernel
/-- and none is one of the two that the staging of operand and result uses. -/
theorem two_le_semOf : ∀ k, 2 ≤ (semOf k).val := by decide +kernel

/-- The semaphore that `k` names. -/
def csem : CI → SemLoc sig
  | none => .reg barS
  | some k => .dma (semOf k)
/-- What a semaphore is for. -/
def tag : SemLoc sig → Option CI
  | .reg s => if s = barS then some none else none
  | .dma q => (tagD q).map some

/-- A semaphore gives back what it is for, -/
theorem tag_csem (k : CI) : tag (csem k) = some k := by
  rcases k with _ | k
  · show (if barS = barS then some none else none) = _
    exact if_pos rfl
  · show (tagD (semOf k)).map some = _
    rw [tagD_semOf]; rfl
/-- so different purposes have different semaphores. -/
theorem csem_injective : Function.Injective csem := fun a b h => Option.some.inj (by rw [← tag_csem, ← tag_csem, h])

/-- The departure semaphore of transfer `i`. -/
theorem csem_snd (i : Fin 120) : csem (some (false, i)) = .dma (sndS i) := rfl
/-- The arrival semaphore of transfer `i`. -/
theorem csem_rcv (i : Fin 120) : csem (some (true, i)) = .dma (rcvS i) := rfl

/-! ## The indices of a transfer and of the one that passes it on -/

/-- The transfer that passes a landing on goes the same way, -/
theorem dir_add (k : ℕ) : dir (k + 8) = dir k := by unfold dir; congr 1; omega
/-- in the same row block. -/
theorem blk_add (k : ℕ) : blk (k + 8) = blk k := by unfold blk; exact Fin.ext (by simp only []; omega)
/-- The last transfers go the same way as the first ones, -/
theorem dir_add' (k : ℕ) : dir (k + 112) = dir k := by unfold dir; congr 1; omega
/-- in the same row blocks. -/
theorem blk_add' (k : ℕ) : blk (k + 112) = blk k := by unfold blk; exact Fin.ext (by simp only []; omega)
/-- A landing is passed on from the slot that it landed in. -/
theorem sslot_add (k : Fin 112) : sslot ⟨k.val + 8, by omega⟩ = dslot ⟨k.val, by omega⟩ :=
  Fin.ext (by simp only [sslot, dslot]; omega)

/-! ## The blocks of a landing buffer -/

/-- The credit that a transfer of one block is worth. -/
def N : ℕ := (slab false 0 0).view.dmaCredit
/-- That credit is positive. -/
theorem N_pos : 0 < N := View.dmaCredit_pos _ (by decide)
/-- Every block is worth the same credit. -/
theorem credit (b : Bool) (t : Fin 16) (j : Fin 4) : (slab b t j).view.dmaCredit = N := by cases b <;> rfl

/-- The elements of block `x.2` of slot `x.1`, in the buffer. -/
def blkSet (b : Bool) (x : Fin 16 × Fin 4) : Finset (buf b).view.ty.Idx := (slabR x.1 x.2).set.map (buf b).view.emb

/-- The elements that a transfer's view covers are those of its block. -/
theorem slab_set (b : Bool) (t : Fin 16) (j : Fin 4) : (slab b t j).view.set = blkSet b (t, j) :=
  (View.set_reshape _ _).trans (View.set_slice _ _)

/-- Different blocks share no element. -/
theorem blkSet_disjoint (b : Bool) (x y : Fin 16 × Fin 4) (h : x ≠ y) : Disjoint (blkSet b x) (blkSet b y) := by
  refine (Finset.disjoint_map _).mpr ?_
  by_cases h1 : x.1 = y.1
  · have h2 : x.2.val ≠ y.2.val := fun e => h (Prod.ext h1 (Fin.ext e))
    refine Rect.unit_disjoint (1 : Fin 3) ?_
    show 64 * x.2.val + 64 ≤ 64 * y.2.val ∨ 64 * y.2.val + 64 ≤ 64 * x.2.val
    omega
  · have h1' : x.1.val ≠ y.1.val := fun e => h1 (Fin.ext e)
    refine Rect.unit_disjoint (0 : Fin 3) ?_
    show x.1.val + 1 ≤ y.1.val ∨ y.1.val + 1 ≤ x.1.val
    omega

/-- Which elements block `j` of slot `t` has. -/
theorem mem_slabR (t : Fin 16) (j : Fin 4) (y : S16x256x512.Idx) :
    y ∈ (slabR t j).set ↔ (y 0).val = t.val ∧ 64 * j.val ≤ (y 1).val ∧ (y 1).val < 64 * j.val + 64 := by
  have h2 : (y 2).val < 512 := (y 2).isLt
  refine Rect.mem_set_unit.trans ⟨fun h => ?_, fun h a => ?_⟩
  · have h0 : t.val ≤ (y 0).val ∧ (y 0).val < t.val + 1 := h 0
    exact ⟨by omega, h 1⟩
  · match a with
    | ⟨0, _⟩ => show t.val ≤ (y 0).val ∧ (y 0).val < t.val + 1; omega
    | ⟨1, _⟩ => exact h.2
    | ⟨2, _⟩ => show 0 ≤ (y 2).val ∧ (y 2).val < 0 + 512; omega

/-- Which elements slot fifteen has. -/
theorem mem_topR (y : S16x256x512.Idx) : y ∈ topR.set ↔ (y 0).val = 15 := by
  have h1 : (y 1).val < 256 := (y 1).isLt
  have h2 : (y 2).val < 512 := (y 2).isLt
  refine Rect.mem_set_unit.trans ⟨fun h => ?_, fun h a => ?_⟩
  · have h0 : 15 ≤ (y 0).val ∧ (y 0).val < 15 + 1 := h 0
    omega
  · match a with
    | ⟨0, _⟩ => show 15 ≤ (y 0).val ∧ (y 0).val < 15 + 1; omega
    | ⟨1, _⟩ => show 0 ≤ (y 1).val ∧ (y 1).val < 0 + 256; omega
    | ⟨2, _⟩ => show 0 ≤ (y 2).val ∧ (y 2).val < 0 + 512; omega

/-- The 64 blocks make up the buffer. -/
theorem blkSet_cover (b : Bool) : (Finset.univ : Finset (Fin 16 × Fin 4)).biUnion (blkSet b) = (buf b).view.set := by
  ext i
  rw [Finset.mem_biUnion]
  constructor
  · rintro ⟨x, -, h⟩
    obtain ⟨y, -, h⟩ := Finset.mem_map.mp h
    exact Finset.mem_map.mpr ⟨y, Finset.mem_univ _, h⟩
  · intro h
    obtain ⟨y, -, h⟩ := Finset.mem_map.mp h
    have h1 : (y 1).val < 256 := (y 1).isLt
    refine ⟨(⟨(y 0).val, (y 0).isLt⟩, ⟨(y 1).val / 64, by omega⟩), Finset.mem_univ _, Finset.mem_map.mpr ⟨y, (mem_slabR _ _ _).mpr ⟨rfl, ?_, ?_⟩, h⟩⟩
    · show 64 * ((y 1).val / 64) ≤ (y 1).val; omega
    · show (y 1).val < 64 * ((y 1).val / 64) + 64; omega

/-- Slot fifteen is made up of its four. -/
theorem top_cover (b : Bool) : (Finset.univ : Finset (Fin 4)).biUnion (fun j => blkSet b (15, j)) = topR.set.map (buf b).view.emb := by
  ext i
  rw [Finset.mem_biUnion]
  constructor
  · rintro ⟨j, -, h⟩
    obtain ⟨y, hy, h⟩ := Finset.mem_map.mp h
    exact Finset.mem_map.mpr ⟨y, (mem_topR y).mpr ((mem_slabR _ _ _).mp hy).1, h⟩
  · intro h
    obtain ⟨y, hy, h⟩ := Finset.mem_map.mp h
    have h1 : (y 1).val < 256 := (y 1).isLt
    refine ⟨⟨(y 1).val / 64, by omega⟩, Finset.mem_univ _, Finset.mem_map.mpr ⟨y, (mem_slabR _ _ _).mpr ⟨(mem_topR y).mp hy, ?_, ?_⟩, h⟩⟩
    · show 64 * ((y 1).val / 64) ≤ (y 1).val; omega
    · show (y 1).val < 64 * ((y 1).val / 64) + 64; omega

/-! ## The values that travel -/

variable (m : (ℓ : Loc nD τ sig) → Buf (Elt F) ℓ)

/-- Device `c`'s operand, as its staging buffer holds it. -/
def xstg (c : Dev nD) : (cc0_stg0_0 : Ref sig .tc).ty.Contents (Elt F) :=
  (win0_0.blk (0 : Fin 1)).view.read (Elt F) (m ((c : Thread nD τ).loc main_arg0))

/-- The block of `x` that device `c` adds before step `s + 1`. -/
def xAdd (b : Bool) (j : Fin 4) (c : Dev nD) (s : Fin 14) : Vec F S64x512 .bf16 :=
  shapeCast S64x512 (xM.view.readAt (Elt F) (xR b j c s).toLoadRect (xstg m c)) shapeCasts_S1x64x512_S64x512
/-- The block of `x` that device `c` adds to the last landing. -/
def xLast (b : Bool) (j : Fin 4) (c : Dev nD) : Vec F S64x512 .bf16 :=
  shapeCast S64x512 (xM.view.readAt (Elt F) (oxR b j c).toLoadRect (xstg m c)) shapeCasts_S1x64x512_S64x512
/-- What device `c` fills slot fifteen with. -/
def fillV (b : Bool) (c : Dev nD) : Vec F S1x256x512 .bf16 :=
  fillPay (xM.view.readAt (Elt F) (fxR b c).toLoadRect (xstg m c))

/-- Every block lies inside one slot. -/
theorem subR_inb : ∀ (j : Fin 4), ∀ a, (![0, 64 * j.val, 0] : Fin 3 → ℕ) a + S1x64x512.size a ≤ S1x256x512.size a := by decide
/-- Block `j` of one slot. -/
def subR (j : Fin 4) : Rect S1x256x512 := Rect.unit (s := S1x256x512) ![0, 64 * j.val, 0] S1x64x512.size (subR_inb j)

/-- What device `c` sends in direction `b` at step `s`, block `j`: the sum of the blocks of `x` for one destination over
    the devices it has passed. -/
def part (b : Bool) (j : Fin 4) : ℕ → Dev nD → Vec F S64x512 .bf16
  | 0, c => shapeCast S64x512 (fun y : S1x64x512.Idx => fillV m b c ((subR j).emb y)) shapeCasts_S1x64x512_S64x512
  | s + 1, c => addf (φ := .bf16) (part b j s (tgt (!b) c)) (xAdd m b j c ⟨s % 14, Nat.mod_lt _ (by decide)⟩)

/-- What transfer `i` carries away from device `c`, -/
def sentW (i : Fin 120) (c : Dev nD) : Vec F S64x512 .bf16 := part m (dir i) (blk i) (i.val / 8) c
/-- and what lands on device `c` with it. -/
def landedW (i : Fin 120) (c : Dev nD) : Vec F S64x512 .bf16 := sentW m i (tgt (!(dir i)) c)
/-- The block of the result that device `c` makes of the last landing. -/
def outW (b : Bool) (j : Fin 4) (c : Dev nD) : Vec F S64x512 .f32 :=
  addf (extf .f32 (part m b j 14 (tgt (!b) c)) bitsLt_bf16_f32) (extf .f32 (xLast m b j c) bitsLt_bf16_f32)

/-- What lands on the neighbour is what the device sent. -/
theorem landedW_tgt (i : Fin 120) (c : Dev nD) : landedW m i (tgt (dir i) c) = sentW m i c := by
  unfold landedW; rw [tgt_tgt]

/-- What is passed on is what landed plus the device's own block. -/
theorem sentW_add (k : Fin 112) (c : Dev nD) : sentW m ⟨k.val + 8, by omega⟩ c
    = addf (φ := .bf16) (landedW m ⟨k.val, by omega⟩ c) (xAdd m (dir k.val) (blk k.val) c ⟨k.val / 8, by omega⟩) := by
  unfold landedW sentW
  simp only [dir_add, blk_add]
  rw [show (k.val + 8) / 8 = k.val / 8 + 1 by omega, part]
  congr 2
  exact Fin.ext (by simp only []; omega)

/-- The last landing is the partial sum over the fifteen other devices. -/
theorem landedW_last (k : Fin 8) (c : Dev nD) : landedW m ⟨k.val + 112, by omega⟩ c = part m (dir k.val) (blk k.val) 14 (tgt (!(dir k.val)) c) := by
  unfold landedW sentW
  simp only [dir_add', blk_add']
  rw [show (k.val + 112) / 8 = 14 by omega]

/-! ## What the accesses read and write -/

/-- Reading a block through a transfer's view and through a load give the same values. -/
theorem slab_read (b : Bool) (t : Fin 16) (j : Fin 4) (f : (buf b).view.ty.Contents (Elt F)) :
    (slab b t j).view.read (Elt F) f
      = shapeCast S64x512 ((buf b).view.readAt (Elt F) (slabR t j).toLoadRect f) shapeCasts_S1x64x512_S64x512 := rfl

/-- A block after the sum is stored into it. -/
theorem slab_store (b : Bool) (t : Fin 16) (j : Fin 4) (f : (buf b).view.ty.Contents (Elt F)) (v w : Vec F S1x64x512 .bf16) :
    (slab b t j).view.read (Elt F) (((buf b).access (slabR t j)).write (Elt F) f (addPay v w) Finset.univ)
      = addf (φ := .bf16) (shapeCast S64x512 v shapeCasts_S1x64x512_S64x512) (shapeCast S64x512 w shapeCasts_S1x64x512_S64x512) := by
  refine (congrArg (fun u => shapeCast S64x512 u shapeCasts_S1x64x512_S64x512)
    (View.read_write_univ (v := (buf b).access (slabR t j)) f (addPay v w))).trans ?_
  exact shapeCast_shapeCast _ _ _

/-- A block of slot fifteen after the slot is filled. -/
theorem slab_fill (b : Bool) (j : Fin 4) (f : (buf b).view.ty.Contents (Elt F)) (v : Vec F S1x256x512 .bf16) :
    (slab b 15 j).view.read (Elt F) (((buf b).access topR).write (Elt F) f v Finset.univ)
      = shapeCast S64x512 (fun y : S1x64x512.Idx => v ((subR j).emb y)) shapeCasts_S1x64x512_S64x512 := by
  rw [slab_read]
  congr 1
  funext y
  have h : (slabR 15 j).toLoadRect.idx y = topR.emb ((subR j).emb y) := by
    funext a
    refine Fin.ext ?_
    match a with
    | ⟨0, _⟩ => show 15 + 1 * (y 0).val = 15 + 1 * (0 + 1 * (y 0).val); omega
    | ⟨1, _⟩ => show 64 * j.val + 1 * (y 1).val = 0 + 1 * (64 * j.val + 1 * (y 1).val); omega
    | ⟨2, _⟩ => show 0 + 1 * (y 2).val = 0 + 1 * (0 + 1 * (y 2).val); omega
  rw [View.readAt_apply, h]
  exact View.read_slice_write_emb topR f v (Finset.mem_univ _)

end Cert.KernelIdeal.Hop
-- ==== Proof.IdealPlan.lean ====
/-
# The protocol of the ring

Every device has a barrier cell, a cell for each of its 120 departures and one for each of its 120 arrivals. Each cell
has one round. The barrier cell of device `c` takes two units, one from each neighbour; the neighbour `tgt d c` pays
duty `d` and hands over all its blocks that `c`'s transfers in direction `d` land in. An arrival cell is paid by the
transfer, which hands over the block with the partial sum in it; a departure cell gives the sender its source block back.
The barrier cells lie at level 1 and the arrival of transfer `i` at level `i + 2`, so that a device waits only for what
lies below all that it still owes.
-/
module

public import proofs.«01_k».proof.Proof.IdealFacts

@[expose] public section

set_option maxRecDepth 16384

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the ring's rounds, -/
abbrev UB : Type := URounds (GSem nD τ sig) Bool
/-- beside that of the staging pipeline. -/
abbrev UU : Type := UR sig nD τ × UB

local notation "𝕄" => MT nD τ sig Unit (Elt F) ℕ UU ℕ

/-- Where the ghost state of the pipeline sits, -/
abbrev EP : Emb (UR sig nD τ) (MT nD τ sig Unit (Elt F) ℕ UU ℕ) := embL
/-- and where that of the rounds sits. -/
abbrev ER : Emb UB (MT nD τ sig Unit (Elt F) ℕ UU ℕ) := embR

variable (m : (ℓ : Loc nD τ sig) → Buf (Elt F) ℓ)

/-- Cell `k` of device `c`. -/
abbrev kcell (c : Dev nD) (k : CI) : GSem nD τ sig := ((c : Thread nD τ), csem k)
/-- The barrier cell of device `c`, -/
abbrev barCell (c : Dev nD) : GSem nD τ sig := kcell c none
/-- its cell for the departure of transfer `i`, -/
abbrev sndCell (c : Dev nD) (i : Fin 120) : GSem nD τ sig := kcell c (some (false, i))
/-- and its cell for the arrival of transfer `i`. -/
abbrev rcvCell (c : Dev nD) (i : Fin 120) : GSem nD τ sig := kcell c (some (true, i))

/-- Different devices or purposes have different cells. -/
theorem kcell_injective : Function.Injective (fun ck : Dev nD × CI => kcell ck.1 ck.2) := by
  rintro ⟨c, k⟩ ⟨c', k'⟩ h
  have h1 : c = c' := congrArg (fun g : GSem nD τ sig => g.1.1) h
  have h2 : k = k' := csem_injective (congrArg Prod.snd h)
  rw [h1, h2]

/-! ## What is handed over -/

/-- A block of device `c`'s landing buffer holding `w`, -/
def blkAt (c : Dev nD) (b : Bool) (t : Fin 16) (j : Fin 4) (w : Vec F S64x512 .bf16) : sProp 𝕄 :=
  owns (c : Thread nD τ) (slab b t j) fullShare w
/-- or holding anything. -/
def blkAny (c : Dev nD) (b : Bool) (t : Fin 16) (j : Fin 4) : sProp 𝕄 := iprop(∃ w, blkAt c b t j w)

/-- The block of the neighbour that `c`'s transfer `i` lands in. -/
def land (c : Dev nD) (i : Fin 120) : sProp 𝕄 := blkAny (tgt (dir i) c) (dir i) (dslot i) (blk i)
/-- What `c`'s neighbour in direction `d` hands it with its signal. -/
def barPay (c : Dev nD) (d : Bool) : sProp 𝕄 := bigSep (Finset.univ.filter fun i : Fin 120 => dir i = d) (land c)
/-- What an arrival hands over: the landing block, with the partial sum in it. -/
def rcvPay (c : Dev nD) (i : Fin 120) : sProp 𝕄 := blkAt c (dir i) (dslot i) (blk i) (landedW m i c)
/-- What a departure gives back: the source block, as it was sent. -/
def sndPay (c : Dev nD) (i : Fin 120) : sProp 𝕄 := blkAt c (dir i) (sslot i) (blk i) (sentW m i c)

omit [FloatOps F] in
instance blkAt_storable (c : Dev nD) (b : Bool) (t : Fin 16) (j : Fin 4) (w : Vec F S64x512 .bf16) :
    BI.Storable (upEmb : UEmb _ 𝕄) (blkAt c b t j w) := by unfold blkAt; infer_instance
omit [FloatOps F] in
instance blkAny_storable (c : Dev nD) (b : Bool) (t : Fin 16) (j : Fin 4) : BI.Storable (upEmb : UEmb _ 𝕄) (blkAny (F := F) c b t j) := by
  unfold blkAny; infer_instance
omit [FloatOps F] in
instance land_storable (c : Dev nD) (i : Fin 120) : BI.Storable (upEmb : UEmb _ 𝕄) (land (F := F) c i) := by unfold land; infer_instance
omit [FloatOps F] in
instance barPay_storable (c : Dev nD) (d : Bool) : BI.Storable (upEmb : UEmb _ 𝕄) (barPay (F := F) c d) := by unfold barPay; infer_instance

/-! ## The schedule -/

/-- The rounds: who pays which cell how much, and what comes with it. -/
def hopRd : Rounds.Schedule (GSem nD τ sig) Bool 𝕄 where
  duties g r := if r = 0 ∧ g.1.2 = .tc then
      (match tag g.2 with | some none => Finset.univ | some (some _) => {false} | none => ∅) else ∅
  unitless _ := False
  amount g _ _ := match tag g.2 with | some none => 1 | _ => N
  payload g _ d := match tag g.2 with
    | some none => barPay g.1.1 d
    | some (some (true, i)) => rcvPay m g.1.1 i
    | some (some (false, i)) => sndPay m g.1.1 i
    | none => iprop(emp)
  amount_pos g _ _ _ := by
    split
    · exact Nat.one_pos
    · exact N_pos

instance hopRd_storable (g : GSem nD τ sig) (r : ℕ) (d : Bool) :
    BI.Storable (upEmb : UEmb _ 𝕄) ((hopRd m).payload g r d) := by
  dsimp only [hopRd]
  unfold rcvPay sndPay
  split <;> infer_instance

section Sched
variable (c : Dev nD) (i : Fin 120)

/-- The barrier cell has a duty for each neighbour, -/
theorem duties_bar : (hopRd m).duties (barCell c) 0 = Finset.univ := by
  dsimp only [hopRd]; rw [if_pos ⟨rfl, rfl⟩, tag_csem]
/-- a departure cell has one duty, -/
theorem duties_snd : (hopRd m).duties (sndCell c i) 0 = {false} := by
  dsimp only [hopRd]; rw [if_pos ⟨rfl, rfl⟩, tag_csem]
/-- so has an arrival cell, -/
theorem duties_rcv : (hopRd m).duties (rcvCell c i) 0 = {false} := by
  dsimp only [hopRd]; rw [if_pos ⟨rfl, rfl⟩, tag_csem]
/-- and after the first round there are none. -/
theorem duties_later (g : GSem nD τ sig) : ∀ r, 1 ≤ r → (hopRd m).duties g r = ∅ :=
  fun r hr => by dsimp only [hopRd]; rw [if_neg fun h => by omega]

/-- A neighbour pays the barrier one unit, -/
theorem amount_bar (d : Bool) : (hopRd m).amount (barCell c) 0 d = 1 := by dsimp only [hopRd]; rw [tag_csem]
/-- a departure is worth one block's credit, -/
theorem amount_snd (d : Bool) : (hopRd m).amount (sndCell c i) 0 d = N := by dsimp only [hopRd]; rw [tag_csem]
/-- and so is an arrival. -/
theorem amount_rcv (d : Bool) : (hopRd m).amount (rcvCell c i) 0 d = N := by dsimp only [hopRd]; rw [tag_csem]

/-- The barrier expects two units, -/
theorem expect_bar : (hopRd m).expect (barCell c) 0 = 2 := by
  unfold Schedule.expect Schedule.amountOf
  rw [duties_bar, Finset.sum_congr rfl fun d _ => amount_bar m c d]
  rfl
/-- a departure cell one block's credit, -/
theorem expect_snd : (hopRd m).expect (sndCell c i) 0 = N := by
  unfold Schedule.expect Schedule.amountOf; rw [duties_snd, Finset.sum_singleton, amount_snd]
/-- and an arrival cell the same. -/
theorem expect_rcv : (hopRd m).expect (rcvCell c i) 0 = N := by
  unfold Schedule.expect Schedule.amountOf; rw [duties_rcv, Finset.sum_singleton, amount_rcv]

/-- What comes with a unit of the barrier, -/
theorem payload_bar (d : Bool) : (hopRd m).payload (barCell c) 0 d = barPay c d := by dsimp only [hopRd]; rw [tag_csem]
/-- with a departure, -/
theorem payload_snd (d : Bool) : (hopRd m).payload (sndCell c i) 0 d = sndPay m c i := by dsimp only [hopRd]; rw [tag_csem]
/-- and with an arrival. -/
theorem payload_rcv (d : Bool) : (hopRd m).payload (rcvCell c i) 0 d = rcvPay m c i := by dsimp only [hopRd]; rw [tag_csem]

/-- A completed barrier round hands over every block that the device's transfers land in. -/
theorem rest_bar : bigSep ((hopRd m).duties (barCell c) 0 \ ∅) (fun d => (hopRd m).payload (barCell c) 0 d) ⊢ bigSep Finset.univ (land (F := F) c) := by
  rw [Finset.sdiff_empty, duties_bar, bigSep_univ_eq_bigSepL [true, false] (by decide) (by decide), bigSepL_cons_cons, bigSepL_singleton,
    payload_bar, payload_bar, bigSep_filter_split Finset.univ (fun i : Fin 120 => dir i = true)]
  refine sep_mono_right (Entails.of_eq ?_)
  unfold barPay
  congr 1
/-- All that a departure cell hands over. -/
theorem rest_snd : bigSep ((hopRd m).duties (sndCell c i) 0 \ ∅) (fun d => (hopRd m).payload (sndCell c i) 0 d) = sndPay m c i := by
  rw [Finset.sdiff_empty, duties_snd, bigSep_singleton, payload_snd]
/-- All that an arrival cell hands over. -/
theorem rest_rcv : bigSep ((hopRd m).duties (rcvCell c i) 0 \ ∅) (fun d => (hopRd m).payload (rcvCell c i) 0 d) = rcvPay m c i := by
  rw [Finset.sdiff_empty, duties_rcv, bigSep_singleton, payload_rcv]

end Sched

/-! ## What a device owes -/

/-- The credits of the transfers from `n` on, each owed to the neighbour's arrival cell. -/
def owed (c : Dev nD) (n : ℕ) : CellTallies nD τ sig Unit :=
  ∑ i ∈ Finset.univ.filter (fun i : Fin 120 => n ≤ i.val), tallyAt (rcvCell (tgt (dir i) c) i) () N
/-- At launch a unit to each neighbour's barrier besides. -/
def O₁ (c : Dev nD) : CellTallies nD τ sig Unit := owed c 0 + tallyAt (barCell (tgt false c)) () 1
/-- What device `c` owes at the start: both barrier units and all its transfers. -/
def O₀ (c : Dev nD) : CellTallies nD τ sig Unit := O₁ c + tallyAt (barCell (tgt true c)) () 1

/-- Transfer `i` takes one arrival off what is owed. -/
theorem owed_step (c : Dev nD) (i : Fin 120) : owed c i.val = owed c (i.val + 1) + tallyAt (rcvCell (tgt (dir i) c) i) () N := by
  unfold owed
  rw [show Finset.univ.filter (fun j : Fin 120 => i.val ≤ j.val) = insert i (Finset.univ.filter (fun j : Fin 120 => i.val + 1 ≤ j.val)) from by
      ext j; simp only [Finset.mem_filter, Finset.mem_univ, true_and, Finset.mem_insert, Fin.ext_iff]; omega,
    Finset.sum_insert (by simp), add_comm]
/-- After the last transfer nothing is owed. -/
theorem owed_last (c : Dev nD) : owed c 120 = 0 := by
  unfold owed
  refine Finset.sum_eq_zero fun i hi => ?_
  have := (Finset.mem_filter.mp hi).2
  omega

/-- Each cell of a TensorCore has one level. -/
def L (g : GSem nD τ sig) : Finset Unit := if g.1.2 = .tc then {()} else ∅
/-- Barrier cells at level 1, the arrival of transfer `i` at `i + 2`, everything else at 0. -/
def lv (g : GSem nD τ sig) (_ : Unit) : ℕ :=
  match tag g.2 with
  | some none => 1
  | some (some (true, i)) => i.val + 2
  | _ => 0

/-- Cells elsewhere have none. -/
theorem L_of_ne (g : GSem nD τ sig) (h : g.1.2 ≠ .tc) : L g = ∅ := if_neg h
/-- The levels of a TensorCore's cell. -/
theorem L_tc (c : Dev nD) (sm : SemLoc sig) : L ((c : Thread nD τ), sm) = {()} := if_pos rfl
/-- The barrier lies at level 1, -/
theorem lv_bar (c : Dev nD) : lv (barCell c) () = 1 := by unfold lv; rw [tag_csem]
/-- the arrival of transfer `i` at level `i + 2`. -/
theorem lv_rcv (c : Dev nD) (i : Fin 120) : lv (rcvCell c i) () = i.val + 2 := by unfold lv; rw [tag_csem]

/-- What is still owed after `n` transfers is a later arrival at a neighbour. -/
theorem owed_pos {c : Dev nD} {n : ℕ} {g : GSem nD τ sig} {u : Unit} (h : 0 < owed c n g u) :
    ∃ i : Fin 120, n ≤ i.val ∧ g = rcvCell (tgt (dir i) c) i := by
  unfold owed at h
  rw [Finset.sum_apply, Finsupp.finset_sum_apply] at h
  obtain ⟨i, hi, h'⟩ := Finset.exists_ne_zero_of_sum_ne_zero (Nat.ne_of_gt h)
  refine ⟨i, (Finset.mem_filter.mp hi).2, ?_⟩
  rw [tallyAt_apply] at h'
  by_contra hn
  rw [if_neg (fun h'' => hn h''.1)] at h'
  exact h' rfl

/-- All that is owed at the start lies above level 0. -/
theorem O₀_pos {c : Dev nD} {g : GSem nD τ sig} {u : Unit} (h : 0 < O₀ c g u) : 0 < lv g () ∧ g.1.2 = .tc := by
  by_contra hn
  have hr : ¬ 0 < owed c 0 g u := fun h' => hn (by
    obtain ⟨i, -, rfl⟩ := owed_pos h'
    exact ⟨by rw [lv_rcv]; omega, rfl⟩)
  have hb : ∀ d, ¬ (g = barCell d ∧ u = ()) := fun d h' => hn (by
    obtain ⟨rfl, -⟩ := h'
    exact ⟨by rw [lv_bar]; omega, rfl⟩)
  unfold O₀ O₁ at h
  rw [Pi.add_apply, Finsupp.add_apply, Pi.add_apply, Finsupp.add_apply, tallyAt_apply, tallyAt_apply, if_neg (hb _), if_neg (hb _)] at h
  omega

omit [FloatOps F] in
/-- A device may wait on one of its cells of level `l` while it owes the transfers from `n` on, if `l < n + 2`. -/
theorem mayWait_owed (c : Dev nD) (k : CI) (n : ℕ) (hl : lv (kcell c k) () < n + 2) :
    (levAts L lv : sProp 𝕄) ⊢ MayWait (c : Thread nD τ) (csem k) () (owed c n) :=
  MayOwe.of_cut (L := L) (lev := lv) (lv (kcell c k) ()) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp])
    (fun g u hg => by obtain ⟨i, hi, rfl⟩ := owed_pos hg; rw [lv_rcv]; omega)

omit [FloatOps F] in
/-- The staging semaphores are below everything. -/
theorem mayWait_stage (c : Dev nD) (q : DmaSem sig) (hq : tag (.dma q) = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rw [show L g = {()} from if_pos (O₀_pos hg).2]; exact Finset.mem_singleton_self _)
      (fun p hp => by rw [Finset.mem_singleton.mp hp]; dsimp only [lv]; rw [hq])
      (fun g u hg => (O₀_pos hg).1)
  · rw [MayWait_zero]; iintro -; iempintro

/-! ## What every device knows -/

/-- The cells' invariants under the names `K`, that no cell is before round 0, and the levels. -/
def recs (K : Dev nD × CI → ℕ) : sProp 𝕄 :=
  iprop((bigSep Finset.univ fun ck : Dev nD × CI => cellInv ER (hopRd m) (K ck) (kcell ck.1 ck.2))
    ∗ (bigSep Finset.univ fun ck : Dev nD × CI => reached ER (kcell ck.1 ck.2) 0) ∗ levAts L lv)

instance recs_persistent (K : Dev nD × CI → ℕ) : BI.Persistent (recs m K) := by unfold recs; infer_instance

/-- The records hold every cell's invariant, -/
theorem recs_inv (K : Dev nD × CI → ℕ) (c : Dev nD) (k : CI) : recs m K ⊢ cellInv ER (hopRd m) (K (c, k)) (kcell c k) := by
  have h : (bigSep Finset.univ fun ck : Dev nD × CI => (cellInv ER (hopRd m) (K ck) (kcell ck.1 ck.2) : sProp 𝕄))
      ⊢ cellInv ER (hopRd m) (K (c, k)) (kcell c k) := bigSep_elim (Finset.mem_univ (c, k))
  unfold recs
  iintro ⟨HI, -, -⟩
  iapply h
  iexact HI
/-- that every cell has reached its first round, -/
theorem recs_reached (K : Dev nD × CI → ℕ) (c : Dev nD) (k : CI) : recs m K ⊢ reached ER (kcell c k) 0 := by
  have h : (bigSep Finset.univ fun ck : Dev nD × CI => (reached ER (kcell ck.1 ck.2) 0 : sProp 𝕄))
      ⊢ reached ER (kcell c k) 0 := bigSep_elim (Finset.mem_univ (c, k))
  unfold recs
  iintro ⟨-, HR, -⟩
  iapply h
  iexact HR
/-- and all the levels. -/
theorem recs_lev (K : Dev nD × CI → ℕ) : recs m K ⊢ levAts L lv := by
  unfold recs
  iintro ⟨-, -, H⟩
  iexact H

end Cert.KernelIdeal.Hop
-- ==== Proof.IdealSteps.lean ====
/-
# One step of each kind

A rule for each kind of step of the kernel: what a device must hold for a transfer, for the wait for an arrival, for the
sum passed on, for the last sum and for the wait for a departure, and what it holds afterwards. `wp_loop` runs a loop
from the rule of its step.
-/
module

public import proofs.«01_k».proof.Proof.IdealPlan

@[expose] public section

set_option maxRecDepth 16384

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop variants are needed. -/
abbrev 𝒱₀ : Variants := Variants.none

/-- Program `k` on device `c` ends in `Q`. -/
abbrev run (c : Dev nD) (k : KProg F) (Q : PUnit → sProp 𝕄) : sProp 𝕄 :=
  wp frame (wpE (defs₀ (F := F)) 𝒱₀ (c : Thread nD τ) none) Set.univ k Q

/-- Device `c` owes `O`, whatever it has waited on. -/
def ow (c : Dev nD) (O : CellTallies nD τ sig Unit) : sProp 𝕄 := iprop(∃ W, owes (c : Thread nD τ) O W)

/-- Element `0` out of the indices up to `n + 1`, the others shifted. -/
theorem bigSep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]
  rfl

/-- A loop: each step takes its own `pre i` and the running `R i` to `post i` and `R (i + 1)`. -/
theorem wp_loop (c : Dev nD) (P : sProp 𝕄) [BI.Persistent P] (Q : PUnit → sProp 𝕄) (k : KProg F) :
    ∀ (n : ℕ) (f : Fin n → KProg F → KProg F) (R : ℕ → sProp 𝕄) (pre post : Fin n → sProp 𝕄)
      (h : ∀ i k, iprop(P ∗ R i.val ∗ pre i) ⊢ iprop((iprop(R (i.val + 1) ∗ post i) -∗ run c k Q) -∗ run c (f i k) Q)),
    iprop(P ∗ R 0 ∗ bigSep Finset.univ pre) ⊢ iprop((iprop(R n ∗ bigSep Finset.univ post) -∗ run c k Q) -∗ run c (loop n f k) Q)
  | 0, f, R, pre, post, h => by
    iintro ⟨-, HR, -⟩ Hk
    iapply Hk
    isplitl; · iexact HR
    rw [Finset.univ_eq_empty, bigSep_empty]; iempintro
  | n + 1, f, R, pre, post, h => by
    have h0 : iprop(P ∗ R 0 ∗ pre 0) ⊢ iprop((iprop(R (0 + 1) ∗ post 0) -∗ run c (loop n (fun i => f i.succ) k) Q)
        -∗ run c (f 0 (loop n (fun i => f i.succ) k)) Q) := h 0 _
    rw [bigSep_succ pre, bigSep_succ post]
    iintro ⟨#HP, HR, Hp, Hps⟩ Hk
    iapply h0 $$ [HR Hp]
    · isplitr; · iexact HP
      isplitl [HR]; · iexact HR
      iexact Hp
    iintro ⟨HR, Hq⟩
    iapply (wp_loop c P Q k n (fun i => f i.succ) (fun i => R (i + 1)) (fun i => pre i.succ) (fun i => post i.succ) (fun i k => h i.succ k))
      $$ [HR Hps]
    · isplitr; · iexact HP
      isplitl [HR]; · iexact HR
      iexact Hps
    iintro ⟨HR, Hqs⟩
    iapply Hk
    isplitl [HR]; · iexact HR
    isplitl [Hq]; · iexact Hq
    iexact Hqs

/-- Owning a block with a value, spelled out. -/
theorem blkAt_eq (c : Dev nD) (b : Bool) (t : Fin 16) (j : Fin 4) (w : Vec F S64x512 .bf16) :
    (blkAt c b t j w : sProp 𝕄) = iprop(∃ f : (buf b).view.ty.Contents (Elt F),
      ⌜(slab b t j).view.read (Elt F) f = w⌝ ∗ ((buf b).view.loc (c : Thread nD τ) ↦[blkSet b (t, j)]{fullShare} f)) := by
  unfold blkAt owns
  rw [slab_set]
  rfl

/-- An access to a block stays inside it. -/
theorem access_set (b : Bool) (t : Fin 16) (j : Fin 4) : ((buf b).access (slabR t j)).set ⊆ blkSet b (t, j) := (View.set_slice _ _).subset

section Step
variable (K : Dev nD × CI → ℕ) (c : Dev nD) (Q : PUnit.{1} → sProp (MT nD τ sig Unit (Elt F) ℕ UU ℕ)) (k : KProg F)

/-- The tokens for transfer `i`'s departure and arrival. -/
def toks (i : Fin 120) : sProp 𝕄 :=
  iprop(dutyTok ER (sndCell c i) 0 false ∗ dutyTok ER (rcvCell (tgt (dir i) c) i) 0 false)

/-- A transfer: the source block and the neighbour's landing block go, one arrival less is owed, and the departure is
    promised. -/
theorem wp_send (i : Fin 120) :
    iprop(recs m K ∗ blkAt c (dir i) (sslot i) (blk i) (sentW m i c) ∗ land c i ∗ ow c (owed c i.val) ∗ toks c i)
      ⊢ iprop((iprop(cred (tallyAt (sndCell c i) () N) ∗ ow c (owed c (i.val + 1))) -∗ run c k Q) -∗ run c (sendK c i k) Q) := by
  unfold blkAt land blkAny blkAt owns ow toks sendK
  iintro ⟨#HP, ⟨%fs, %hs, Hs⟩, ⟨%w, %fd, -, Hd⟩, ⟨%W, HO⟩, Ht1, Ht2⟩ Hk
  iapply (Rounds.wp_send_pointsTo 𝒱₀ ER (hopRd m) (c : Thread nD τ) none (κ₁ := K (c, some (false, i))) (κ₂ := K (tgt (dir i) c, some (true, i)))
      (r₁ := 0) (r₂ := 0) (d₁ := false) (d₂ := false) (fd := fd) (fs := fs)
      (by rw [duties_snd]; exact Finset.mem_singleton_self _) (by rw [duties_rcv]; exact Finset.mem_singleton_self _)
      () () N (by exact credit _ _ _) (amount_snd m c i false) (amount_rcv m (tgt (dir i) c) i false) (owed c (i.val + 1)) (owed_step c i) (W := W)
      (by
        rw [payload_snd]; unfold sndPay blkAt owns
        iintro H
        iexists fs
        isplitr; · (ipureintro; exact hs)
        iexact H)
      (by
        rw [payload_rcv]; unfold rcvPay blkAt owns
        iintro H
        iexists ((slab (dir i) (dslot i) (blk i)).view.write (Elt F) fd ((slab (dir i) (sslot i) (blk i)).view.read (Elt F) fs) Finset.univ)
        isplitr
        · ipureintro
          rw [landedW_tgt, ← hs]
          exact View.read_write_univ _ _
        iexact H)) $$ [Hs Hd HO Ht1 Ht2]
  · isplitr; · (iapply (recs_inv m K c (some (false, i)))); iexact HP
    isplitr; · (iapply (recs_inv m K (tgt (dir i) c) (some (true, i)))); iexact HP
    isplitl [Hs]; · iexact Hs
    isplitl [Hd]; · iexact Hd
    isplitl [HO]; · iexact HO
    isplitl [Ht1]; · iexact Ht1
    isplitr; · (iapply (recs_reached m K c (some (false, i)))); iexact HP
    isplitl [Ht2]; · iexact Ht2
    (iapply (recs_reached m K (tgt (dir i) c) (some (true, i)))); iexact HP
  iintro ⟨Hc, HO⟩
  iapply Hk
  isplitl [Hc]; · iexact Hc
  iexists W; iexact HO

/-- The wait for an arrival: the landed block, and the cell closed. -/
theorem wp_recv (i : Fin 120) (n : ℕ) (hn : i.val < n) :
    iprop(recs m K ∗ atPos ER (rcvCell c i) 0 ∅ 0 ∗ cred (tallyAt (rcvCell c i) () N) ∗ ow c (owed c n))
      ⊢ iprop((iprop(rcvPay m c i ∗ semVal (rcvCell c i) 0 ∗ ow c (owed c n)) -∗ run c k Q) -∗ run c (recvK i k) Q) := by
  unfold ow recvK
  iintro ⟨#HP, Hat, Hc, ⟨%W, HO⟩⟩ Hk
  iapply (Rounds.wp_wait_rest_token 𝒱₀ ER (hopRd m) (c : Thread nD τ) none (κ := K (c, some (true, i))) (sm := csem (some (true, i)))
      (wpE_waitDma2_eq 𝒱₀ (c : Thread nD τ) none Set.univ) (Set.mem_univ _) () (O := owed c n) (W := W) (R := 0) (m := 0) (T := ∅)
      (by rw [Nat.zero_add, credit, expect_rcv])) $$ [Hat Hc HO]
  · isplitr; · (iapply (recs_inv m K c (some (true, i)))); iexact HP
    isplitl [Hc]; · (rw [credit]; iexact Hc)
    isplitl [HO]; · iexact HO
    isplitr
    · iapply (mayWait_owed c (some (true, i)) n (by rw [lv_rcv]; omega))
      iapply (recs_lev m K); iexact HP
    iexact Hat
  iintro ⟨HO, Hat, -, Hpay⟩
  ihave Hp := (Entails.of_eq (rest_rcv m c i)) $$ Hpay
  imod (Rounds.cell_close ER (hopRd m) (Set.mem_univ (K (c, some (true, i)))) (fun h => h) (R := 0 + 1) (duties_later m (rcvCell c i))) $$ [Hat] with Hz
  · isplitr; · (iapply (recs_inv m K c (some (true, i)))); iexact HP
    iexact Hat
  iapply Hk
  isplitl [Hp]; · iexact Hp
  isplitl [Hz]; · iexact Hz
  iexists _; iexact HO

/-- The wait for a departure: the source block back, and the cell closed. -/
theorem wp_sent (i : Fin 120) :
    iprop(recs m K ∗ ow c (owed c 120) ∗ atPos ER (sndCell c i) 0 ∅ 0 ∗ cred (tallyAt (sndCell c i) () N))
      ⊢ iprop((iprop(ow c (owed c 120) ∗ sndPay m c i ∗ semVal (sndCell c i) 0) -∗ run c k Q) -∗ run c (sentK i k) Q) := by
  unfold ow sentK
  iintro ⟨#HP, ⟨%W, HO⟩, Hat, Hc⟩ Hk
  iapply (Rounds.wp_wait_rest_token 𝒱₀ ER (hopRd m) (c : Thread nD τ) none (κ := K (c, some (false, i))) (sm := csem (some (false, i)))
      (wpE_waitDma2_eq 𝒱₀ (c : Thread nD τ) none Set.univ) (Set.mem_univ _) () (O := owed c 120) (W := W) (R := 0) (m := 0) (T := ∅)
      (by rw [Nat.zero_add, credit, expect_snd])) $$ [Hat Hc HO]
  · isplitr; · (iapply (recs_inv m K c (some (false, i)))); iexact HP
    isplitl [Hc]; · (rw [credit]; iexact Hc)
    isplitl [HO]; · iexact HO
    isplitr
    · iapply (mayWait_owed c (some (false, i)) 120 (by unfold lv; rw [tag_csem]; exact Nat.succ_pos _))
      iapply (recs_lev m K); iexact HP
    iexact Hat
  iintro ⟨HO, Hat, -, Hpay⟩
  ihave Hp := (Entails.of_eq (rest_snd m c i)) $$ Hpay
  imod (Rounds.cell_close ER (hopRd m) (Set.mem_univ (K (c, some (false, i)))) (fun h => h) (R := 0 + 1) (duties_later m (sndCell c i))) $$ [Hat] with Hz
  · isplitr; · (iapply (recs_inv m K c (some (false, i)))); iexact HP
    iexact Hat
  iapply Hk
  isplitl [HO]; · (iexists _; iexact HO)
  isplitl [Hp]; · iexact Hp
  iexact Hz

/-! ## The steps that compute -/

/-- The device's own operand. -/
def xPts : sProp 𝕄 := iprop((c : Thread nD τ).loc cc0_stg0_0 ↦{fullShare} xstg m c)
/-- Slot fifteen, as its four blocks cover it. -/
def topPts (b : Bool) (f : (buf b).view.ty.Contents (Elt F)) : sProp 𝕄 :=
  iprop((buf b).view.loc (c : Thread nD τ) ↦[topR.set.map (buf b).view.emb]{fullShare} f)

/-- The fill of slot fifteen makes its four blocks what step 0 sends. -/
theorem wp_fill (b : Bool) (f : (buf b).view.ty.Contents (Elt F)) :
    iprop(xPts m c ∗ topPts c b f)
      ⊢ iprop((iprop(xPts m c ∗ bigSep Finset.univ fun j : Fin 4 => blkAt c b 15 j (part m b j 0 c)) -∗ run c k Q) -∗ run c (fillK c b k) Q) := by
  have hs : ∀ g : (buf b).view.ty.Contents (Elt F),
      (iprop((buf b).view.loc (c : Thread nD τ) ↦[topR.set.map (buf b).view.emb]{fullShare} g) : sProp 𝕄)
        = bigSep Finset.univ fun j : Fin 4 => iprop((buf b).view.loc (c : Thread nD τ) ↦[blkSet b (15, j)]{fullShare} g) := fun g => by
    rw [← top_cover b]
    exact pointsTo_biUnion _ _ fun j _ j' _ h => blkSet_disjoint b _ _ fun e => h (congrArg Prod.snd e)
  unfold xPts topPts fillK
  iintro ⟨Hx, Hb⟩ Hk
  iapply (wp_load 𝒱₀ (c : Thread nD τ) none Set.univ (m := xM) (Finset.subset_univ _)) $$ Hx; iintro Hx
  iapply (wp_load_rect 𝒱₀ (c : Thread nD τ) none Set.univ (m := buf b) (r := topR) (View.set_slice _ _).subset) $$ Hb; iintro Hb
  iapply (wp_store 𝒱₀ (c : Thread nD τ) none Set.univ (m := buf b) (r := topR) (Mk := Finset.univ) (View.set_slice _ _).subset) $$ Hb; iintro Hb
  iapply Hk
  isplitl [Hx]; · iexact Hx
  have hm : (iprop((buf b).view.loc (c : Thread nD τ) ↦[topR.set.map (buf b).view.emb]{fullShare}
        ((buf b).access topR).write (Elt F) f (fillV m b c) Finset.univ) : sProp 𝕄)
      ⊢ bigSep Finset.univ fun j : Fin 4 => blkAt c b 15 j (part m b j 0 c) := by
    have h1 : ∀ j : Fin 4, (iprop((buf b).view.loc (c : Thread nD τ) ↦[blkSet b (15, j)]{fullShare}
          ((buf b).access topR).write (Elt F) f (fillV m b c) Finset.univ) : sProp 𝕄) ⊢ blkAt c b 15 j (part m b j 0 c) := fun j => by
      rw [blkAt_eq]
      iintro H
      iexists (((buf b).access topR).write (Elt F) f (fillV m b c) Finset.univ)
      isplitr
      · ipureintro
        exact slab_fill b j f _
      iexact H
    rw [hs]
    exact bigSep_mono fun j _ => h1 j
  iapply hm
  iexact Hb

/-- The sum into a block, before what follows it. -/
def addK (d : Dev nD) (b : Bool) (t : Fin 16) (j : Fin 4) (s : Fin 14) (k : KProg F) : KProg F :=
  .op (.load (buf b) (slabR t j).toLoadRect (View.loadsAt_vmem h_S1x64x512)) fun v =>
  .op (.load xM (xR b j d s).toLoadRect (View.loadsAt_vmem h_S1x64x512)) fun w =>
  .op (.load (buf b) (slabR t j).toLoadRect (View.loadsAt_vmem h_S1x64x512)) fun _ =>
  .op (.store (buf b) (slabR t j) (addPay v w) Finset.univ
    (View.stores_vmem h_S1x64x512 ((buf_whole _).storeExact_slice rfl _ (slab_packed _ _)) (fun _ => rfl)) (.inl rfl)) fun _ => k

/-- The transfer that a step of the middle loop waits for, -/
abbrev passI (i : Fin 112) : Fin 120 := ⟨i.val, by omega⟩
/-- and the one it passes the sum on with. -/
abbrev nextI (i : Fin 112) : Fin 120 := ⟨i.val + 8, by omega⟩

/-- A pass begins with the wait for its landing. -/
theorem passK_eq (i : Fin 112) : passK c i k = recvK (passI i)
    (addK c (dir i.val) (dslot (passI i)) (blk i.val) ⟨i.val / 8, by omega⟩ (sendK c (nextI i) k)) := rfl

/-- The device's own block is added to a landed one, in place. -/
theorem wp_addK (b : Bool) (t : Fin 16) (j : Fin 4) (s : Fin 14) (w : Vec F S64x512 .bf16) :
    iprop(xPts m c ∗ blkAt c b t j w)
      ⊢ iprop((iprop(xPts m c ∗ blkAt c b t j (addf (φ := .bf16) w (xAdd m b j c s))) -∗ run c k Q) -∗ run c (addK c b t j s k) Q) := by
  rw [blkAt_eq, blkAt_eq]
  unfold xPts addK
  iintro ⟨Hx, ⟨%f, %hf, Hb⟩⟩ Hk
  iapply (wp_load_rect 𝒱₀ (c : Thread nD τ) none Set.univ (m := buf b) (r := slabR t j) (S := blkSet b (t, j)) (access_set b t j)) $$ Hb; iintro Hb
  iapply (wp_load 𝒱₀ (c : Thread nD τ) none Set.univ (m := xM) (Finset.subset_univ _)) $$ Hx; iintro Hx
  iapply (wp_load_rect 𝒱₀ (c : Thread nD τ) none Set.univ (m := buf b) (r := slabR t j) (S := blkSet b (t, j)) (access_set b t j)) $$ Hb; iintro Hb
  iapply (wp_store 𝒱₀ (c : Thread nD τ) none Set.univ (m := buf b) (r := slabR t j) (Mk := Finset.univ) (S := blkSet b (t, j)) (access_set b t j)) $$ Hb; iintro Hb
  iapply Hk
  isplitl [Hx]; · iexact Hx
  iexists (((buf b).access (slabR t j)).write (Elt F) f (addPay (((buf b).access (slabR t j)).read (Elt F) f)
    (xM.view.readAt (Elt F) (xR b j c s).toLoadRect (xstg m c))) Finset.univ)
  isplitr
  · ipureintro
    refine (slab_store b t j f _ _).trans ?_
    rw [← hf]
    rfl
  iexact Hb

/-- What one step of the middle loop needs -/
def passPre (i : Fin 112) : sProp 𝕄 :=
  iprop(atPos ER (rcvCell c (passI i)) 0 ∅ 0 ∗ cred (tallyAt (rcvCell c (passI i)) () N)
    ∗ land c (nextI i) ∗ toks c (nextI i))
/-- and leaves. -/
def passPost (i : Fin 112) : sProp 𝕄 :=
  iprop(semVal (rcvCell c (passI i)) 0 ∗ cred (tallyAt (sndCell c (nextI i)) () N))

/-- One pass: wait for a landing, add to it, send it on. -/
theorem wp_pass (i : Fin 112) :
    iprop(recs m K ∗ iprop(xPts m c ∗ ow c (owed c (i.val + 8))) ∗ passPre c i)
      ⊢ iprop((iprop(iprop(xPts m c ∗ ow c (owed c (i.val + 1 + 8))) ∗ passPost c i) -∗ run c k Q) -∗ run c (passK c i k) Q) := by
  have he : rcvPay m c (passI i) = (blkAt c (dir i.val) (dslot (passI i)) (blk i.val) (landedW m (passI i) c) : sProp 𝕄) := rfl
  have hb : (blkAt c (dir i.val) (dslot (passI i)) (blk i.val)
        (addf (φ := .bf16) (landedW m (passI i) c) (xAdd m (dir i.val) (blk i.val) c ⟨i.val / 8, by omega⟩)) : sProp 𝕄)
      = blkAt c (dir (i.val + 8)) (sslot (nextI i)) (blk (i.val + 8)) (sentW m (nextI i) c) := by
    rw [sentW_add, sslot_add, dir_add, blk_add]
  rw [passK_eq]
  unfold passPre passPost
  iintro ⟨#HP, ⟨Hx, HO⟩, Hat, Hc, Hl, Ht⟩ Hk
  iapply (wp_recv m K c Q _ (passI i) (i.val + 8) (by show i.val < i.val + 8; omega)) $$ [Hat Hc HO]
  · isplitr; · iexact HP
    isplitl [Hat]; · iexact Hat
    isplitl [Hc]; · iexact Hc
    iexact HO
  rw [he]
  iintro ⟨Hb, Hz, HO⟩
  iapply (wp_addK m c Q _ _ _ _ _ _) $$ [Hx Hb]
  · isplitl [Hx]; · iexact Hx
    iexact Hb
  rw [hb]
  iintro ⟨Hx, Hb⟩
  iapply (wp_send m K c Q k (nextI i)) $$ [Hb Hl HO Ht]
  · isplitr; · iexact HP
    isplitl [Hb]; · iexact Hb
    isplitl [Hl]; · iexact Hl
    isplitl [HO]; · iexact HO
    iexact Ht
  iintro ⟨Hc, HO⟩
  iapply Hk
  isplitl [Hx HO]
  · isplitl [Hx]; · iexact Hx
    rw [show i.val + 1 + 8 = i.val + 8 + 1 by omega]
    iexact HO
  isplitl [Hz]; · iexact Hz
  iexact Hc

/-- The transfer whose landing the `i`-th step of the last loop waits for. -/
abbrev lastI (i : Fin 8) : Fin 120 := ⟨i.val + 112, by omega⟩
/-- Block `j` of direction `b`'s half of the result. -/
def outRead (b : Bool) (j : Fin 4) (g : (cc0_stg1_0 : Ref sig .tc).ty.Contents (Elt F)) : Vec F S64x512 .f32 :=
  (oM.access (oR b j)).read (Elt F) g

omit [FloatOps F] in
/-- The last eight landings make different rows of the result. -/
theorem lastI_disjoint : ∀ i i' : Fin 8, i ≠ i' →
    (if dir (lastI i) then 256 else 0) + 64 * (blk (lastI i)).val + 64 ≤ (if dir (lastI i') then 256 else 0) + 64 * (blk (lastI i')).val
    ∨ (if dir (lastI i') then 256 else 0) + 64 * (blk (lastI i')).val + 64 ≤ (if dir (lastI i) then 256 else 0) + 64 * (blk (lastI i)).val := by
  decide +kernel

/-- The rows just stored read back as the value stored, -/
theorem outRead_same (b : Bool) (j : Fin 4) (g : (cc0_stg1_0 : Ref sig .tc).ty.Contents (Elt F)) (w : Vec F S64x512 .f32) :
    outRead b j ((oM.access (oR b j)).write (Elt F) g w Finset.univ) = w := View.read_write_univ _ _
/-- and all other rows as before. -/
theorem outRead_other (i i' : Fin 8) (h : i' ≠ i) (g : (cc0_stg1_0 : Ref sig .tc).ty.Contents (Elt F)) (w : Vec F S64x512 .f32) :
    outRead (dir (lastI i')) (blk (lastI i')) ((oM.access (oR (dir (lastI i)) (blk (lastI i)))).write (Elt F) g w Finset.univ)
      = outRead (dir (lastI i')) (blk (lastI i')) g := by
  refine View.read_slice_write_slice_of_disjoint _ _ _ _ _ ?_
  rw [View.setOn_univ, View.set_slice, View.set_slice]
  exact (Finset.disjoint_map _).mpr (Rect.unit_disjoint (0 : Fin 2) (lastI_disjoint i' i h))

/-- What the last landings bring. -/
theorem landedW_last' (i : Fin 8) : landedW m (lastI i) c = part m (dir (lastI i)) (blk (lastI i)) 14 (tgt (!(dir (lastI i))) c) := by
  unfold landedW sentW
  rw [show (lastI i).val / 8 = 14 by simp only []; omega]

/-- The sum into a block of the result, before what follows it. -/
def outK (d : Dev nD) (b : Bool) (t : Fin 16) (j : Fin 4) (k : KProg F) : KProg F :=
  .op (.load (buf b) (slabR t j).toLoadRect (View.loadsAt_vmem h_S1x64x512)) fun v =>
  .op (.load xM (oxR b j d).toLoadRect (View.loadsAt_vmem h_S1x64x512)) fun w =>
  .op (.load oM (oR b j).toLoadRect (View.loadsAt_vmem h_S64x512)) fun _ =>
  .op (.store oM (oR b j) (outPay v w) Finset.univ (View.stores_vmem_bits_univ h_S64x512 rfl) (.inl rfl)) fun _ => k

/-- A last step begins with the wait for its landing. -/
theorem lastK_eq (i : Fin 8) : lastK c i k = recvK (lastI i) (outK c (dir (lastI i)) (dslot (lastI i)) (blk (lastI i)) k) := rfl

/-- A landed block and the device's own are added into the result. -/
theorem wp_outK (b : Bool) (t : Fin 16) (j : Fin 4) (w : Vec F S64x512 .bf16) (g : (cc0_stg1_0 : Ref sig .tc).ty.Contents (Elt F)) :
    iprop(xPts m c ∗ blkAt c b t j w ∗ (c : Thread nD τ).loc cc0_stg1_0 ↦{fullShare} g)
      ⊢ iprop((iprop(xPts m c ∗ blkAt c b t j w ∗ (c : Thread nD τ).loc cc0_stg1_0 ↦{fullShare} ((oM.access (oR b j)).write (Elt F) g
            (addf (φ := .f32) (extf .f32 w bitsLt_bf16_f32) (extf .f32 (xLast m b j c) bitsLt_bf16_f32)) Finset.univ)) -∗ run c k Q)
          -∗ run c (outK c b t j k) Q) := by
  rw [blkAt_eq]
  unfold xPts outK
  iintro ⟨Hx, ⟨%f, %hf, Hb⟩, Ho⟩ Hk
  iapply (wp_load_rect 𝒱₀ (c : Thread nD τ) none Set.univ (m := buf b) (r := slabR t j) (S := blkSet b (t, j)) (access_set b t j)) $$ Hb; iintro Hb
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Ho; iintro Ho
  iapply (wp_store 𝒱₀ (c : Thread nD τ) none Set.univ (m := oM) (r := oR b j) (Mk := Finset.univ) (Finset.subset_univ _)) $$ Ho; iintro Ho
  have hw : outPay (((buf b).access (slabR t j)).read (Elt F) f) (xM.view.readAt (Elt F) (oxR b j c).toLoadRect (xstg m c))
      = addf (φ := .f32) (extf .f32 w bitsLt_bf16_f32) (extf .f32 (xLast m b j c) bitsLt_bf16_f32) := by rw [← hf]; rfl
  rw [hw]
  iapply Hk
  isplitl [Hx]; · iexact Hx
  isplitl [Hb]
  · iexists f
    isplitr; · (ipureintro; exact hf)
    iexact Hb
  iexact Ho

/-- The result with its first `n` blocks made. -/
def outPts (n : ℕ) : sProp 𝕄 :=
  iprop(∃ g : (cc0_stg1_0 : Ref sig .tc).ty.Contents (Elt F),
    ⌜∀ i : Fin 8, i.val < n → outRead (dir (lastI i)) (blk (lastI i)) g = outW m (dir (lastI i)) (blk (lastI i)) c⌝
      ∗ (c : Thread nD τ).loc cc0_stg1_0 ↦{fullShare} g)
/-- What one step of the last loop needs -/
def lastPre (i : Fin 8) : sProp 𝕄 :=
  iprop(atPos ER (rcvCell c (lastI i)) 0 ∅ 0 ∗ cred (tallyAt (rcvCell c (lastI i)) () N))
/-- and leaves. -/
def lastPost (i : Fin 8) : sProp 𝕄 :=
  iprop(semVal (rcvCell c (lastI i)) 0 ∗ blkAny c (dir (lastI i)) (dslot (lastI i)) (blk (lastI i)))

/-- One last step: wait for a landing and make its rows of the result. -/
theorem wp_last (i : Fin 8) :
    iprop(recs m K ∗ iprop(xPts m c ∗ ow c (owed c 120) ∗ outPts m c i.val) ∗ lastPre c i)
      ⊢ iprop((iprop(iprop(xPts m c ∗ ow c (owed c 120) ∗ outPts m c (i.val + 1)) ∗ lastPost c i) -∗ run c k Q) -∗ run c (lastK c i k) Q) := by
  rw [lastK_eq]
  unfold lastPre lastPost outPts
  iintro ⟨#HP, ⟨Hx, HO, ⟨%g, %hg, Ho⟩⟩, Hat, Hc⟩ Hk
  iapply (wp_recv m K c Q _ (lastI i) 120 (lastI i).isLt) $$ [Hat Hc HO]
  · isplitr; · iexact HP
    isplitl [Hat]; · iexact Hat
    isplitl [Hc]; · iexact Hc
    iexact HO
  unfold rcvPay
  iintro ⟨Hb, Hz, HO⟩
  iapply (wp_outK m c Q k _ _ _ (landedW m (lastI i) c) g) $$ [Hx Hb Ho]
  · isplitl [Hx]; · iexact Hx
    isplitl [Hb]; · iexact Hb
    iexact Ho
  iintro ⟨Hx, Hb, Ho⟩
  iapply Hk
  isplitl [Hx HO Ho]
  · isplitl [Hx]; · iexact Hx
    isplitl [HO]; · iexact HO
    iexists _
    isplitr
    on_goal 2 => iexact Ho
    ipureintro
    intro i' hi'
    by_cases h : i' = i
    · subst h
      refine (outRead_same _ _ g _).trans ?_
      rw [landedW_last' m c i']
      rfl
    · exact (outRead_other i i' h g _).trans (hg i' (by have := fun e => h (Fin.ext e); omega))
  isplitl [Hz]; · iexact Hz
  unfold blkAny
  iexists _
  iexact Hb

end Step

end Cert.KernelIdeal.Hop
-- ==== Proof.IdealSplit.lean ====
/-
# Dealing out buffers and tokens, and collecting them

How a `bigSep` over the transfers is split into the ranges that the kernel's loops run over, how the two landing buffers
are dealt out as blocks (one for each transfer to land in, and slot fifteen), and how the blocks that come back at the
end make the buffers whole again.
-/
module

public import proofs.«01_k».proof.Proof.IdealSteps
public import Idealize.ShloMosaic.Lib.Ring

@[expose] public section

set_option maxRecDepth 16384

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Ranges of transfers -/

/-- Transfer `i` of the first eight. -/
abbrev firstI (i : Fin 8) : Fin 120 := ⟨i.val, by omega⟩

/-- The transfers as the first eight and the others, -/
def loEquiv : Fin 8 ⊕ Fin 112 ≃ Fin 120 where
  toFun := Sum.elim firstI nextI
  invFun i := if h : i.val < 8 then .inl ⟨i.val, h⟩ else .inr ⟨i.val - 8, by omega⟩
  left_inv x := by
    rcases x with i | i
    · exact dif_pos i.isLt
    · show (if h : i.val + 8 < 8 then _ else _) = _
      rw [dif_neg (by omega)]
      exact congrArg Sum.inr (Fin.ext (Nat.add_sub_cancel _ _))
  right_inv i := by
    dsimp only
    split
    · rfl
    · exact Fin.ext (by show i.val - 8 + 8 = i.val; omega)

/-- or as all but the last eight and those. -/
def hiEquiv : Fin 112 ⊕ Fin 8 ≃ Fin 120 where
  toFun := Sum.elim passI lastI
  invFun i := if h : i.val < 112 then .inl ⟨i.val, h⟩ else .inr ⟨i.val - 112, by omega⟩
  left_inv x := by
    rcases x with i | i
    · exact dif_pos i.isLt
    · show (if h : i.val + 112 < 112 then _ else _) = _
      rw [dif_neg (by omega)]
      exact congrArg Sum.inr (Fin.ext (Nat.add_sub_cancel _ _))
  right_inv i := by
    dsimp only
    split
    · rfl
    · exact Fin.ext (by show i.val - 112 + 112 = i.val; omega)

/-- A product over all transfers, the first eight apart. -/
theorem split_lo (Φ : Fin 120 → sProp 𝕄) :
    bigSep Finset.univ Φ = iprop((bigSep Finset.univ fun i : Fin 8 => Φ (firstI i)) ∗ bigSep Finset.univ fun i : Fin 112 => Φ (nextI i)) := by
  rw [bigSep_univ_equiv loEquiv, bigSep_univ_sum]; rfl
/-- A product over all transfers, the last eight apart. -/
theorem split_hi (Φ : Fin 120 → sProp 𝕄) :
    bigSep Finset.univ Φ = iprop((bigSep Finset.univ fun i : Fin 112 => Φ (passI i)) ∗ bigSep Finset.univ fun i : Fin 8 => Φ (lastI i)) := by
  rw [bigSep_univ_equiv hiEquiv, bigSep_univ_sum]; rfl

/-- A product over both directions. -/
theorem split_bool (Φ : Bool → sProp 𝕄) : bigSep Finset.univ Φ = iprop(Φ false ∗ Φ true) :=
  bigSep_univ_eq_bigSepL [false, true] (by decide) (by decide) Φ
/-- The cells: the barrier, the departures, the arrivals. -/
theorem split_cells (Φ : CI → sProp 𝕄) : bigSep Finset.univ Φ
    = iprop(Φ none ∗ (bigSep Finset.univ fun i : Fin 120 => Φ (some (false, i))) ∗ bigSep Finset.univ fun i : Fin 120 => Φ (some (true, i))) := by
  have h : (Finset.univ : Finset CI) = insert none (Finset.univ.map Function.Embedding.some) := by
    ext k
    rcases k with _ | k
    · simp
    · simp
  rw [h, bigSep_insert (by simp), bigSep_map, bigSep_univ_prod, split_bool]
  rfl

/-! ## Blocks -/

/-- Which block of which buffer transfer `i` lands in; and the blocks of slot fifteen. -/
def inBlk : Fin 120 ⊕ (Bool × Fin 4) → Bool × (Fin 16 × Fin 4)
  | .inl i => (dir i, dslot i, blk i)
  | .inr x => (x.1, 15, x.2)
/-- Which block transfer `i` leaves from; and those the last eight land in. -/
def outBlk : Fin 120 ⊕ Fin 8 → Bool × (Fin 16 × Fin 4)
  | .inl i => (dir i, sslot i, blk i)
  | .inr i => (dir (lastI i), dslot (lastI i), blk (lastI i))

/-- Different transfers land in different blocks. -/
theorem inBlk_injective : Function.Injective inBlk := by unfold Function.Injective; decide +kernel
/-- Different transfers are sent from different blocks. -/
theorem outBlk_injective : Function.Injective outBlk := by unfold Function.Injective; decide +kernel
/-- The blocks are those that transfers land in and those of slot fifteen. -/
def inEquiv : Fin 120 ⊕ (Bool × Fin 4) ≃ Bool × (Fin 16 × Fin 4) :=
  Equiv.ofBijective inBlk ((Fintype.bijective_iff_injective_and_card inBlk).mpr ⟨inBlk_injective, by simp⟩)
/-- The blocks are those that transfers are sent from and those of the last landings. -/
def outEquiv : Fin 120 ⊕ Fin 8 ≃ Bool × (Fin 16 × Fin 4) :=
  Equiv.ofBijective outBlk ((Fintype.bijective_iff_injective_and_card outBlk).mpr ⟨outBlk_injective, by simp⟩)

/-- A landing buffer of device `c`, whole. -/
def bufPts (c : Dev nD) (b : Bool) : sProp 𝕄 :=
  iprop(∃ f : (buf b).view.ty.Contents (Elt F), (buf b).view.loc (c : Thread nD τ) ↦{fullShare} f)

/-- The blocks make up the whole buffer. -/
theorem blkSet_univ (b : Bool) : (Finset.univ : Finset (Fin 16 × Fin 4)).biUnion (blkSet b) = Finset.univ :=
  (blkSet_cover b).trans (by cases b <;> exact View.set_whole _)

/-- Owning a landing buffer is owning its 64 blocks. -/
theorem pts_blocks (c : Dev nD) (b : Bool) (f : (buf b).view.ty.Contents (Elt F)) :
    (iprop((buf b).view.loc (c : Thread nD τ) ↦{fullShare} f) : sProp 𝕄)
      = bigSep Finset.univ fun x : Fin 16 × Fin 4 => iprop((buf b).view.loc (c : Thread nD τ) ↦[blkSet b x]{fullShare} f) := by
  rw [← blkSet_univ b]
  exact pointsTo_biUnion _ _ fun x _ y _ h => blkSet_disjoint b x y h
/-- Owning slot fifteen is owning its four. -/
theorem pts_top (c : Dev nD) (b : Bool) (f : (buf b).view.ty.Contents (Elt F)) :
    (topPts c b f : sProp 𝕄)
      = bigSep Finset.univ fun j : Fin 4 => iprop((buf b).view.loc (c : Thread nD τ) ↦[blkSet b (15, j)]{fullShare} f) := by
  unfold topPts
  rw [← top_cover b]
  exact pointsTo_biUnion _ _ fun j _ j' _ h => blkSet_disjoint b _ _ fun e => h (congrArg Prod.snd e)

/-- A block with known contents is a block with some contents. -/
theorem blkAny_intro (c : Dev nD) (b : Bool) (t : Fin 16) (j : Fin 4) (f : (buf b).view.ty.Contents (Elt F)) :
    (iprop((buf b).view.loc (c : Thread nD τ) ↦[blkSet b (t, j)]{fullShare} f) : sProp 𝕄) ⊢ blkAny c b t j := by
  unfold blkAny
  simp only [blkAt_eq]
  iintro H
  iexists _
  iexists f
  isplitr; · (ipureintro; rfl)
  iexact H

/-- The two landing buffers are dealt out: what the neighbours need for their signals' worth, and slot fifteen of each. -/
theorem deal (c : Dev nD) (f : (b : Bool) → (buf b).view.ty.Contents (Elt F)) :
    iprop(((buf false).view.loc (c : Thread nD τ) ↦{fullShare} f false) ∗ ((buf true).view.loc (c : Thread nD τ) ↦{fullShare} f true))
      ⊢ (iprop(barPay (tgt true c) false ∗ barPay (tgt false c) true ∗ topPts c false (f false) ∗ topPts c true (f true)) : sProp 𝕄) := by
  have hb : ∀ d : Bool, (bigSep (Finset.univ.filter fun i : Fin 120 => dir i = d) fun i => blkAny (F := F) c (dir i) (dslot i) (blk i))
      = barPay (tgt (!d) c) d := fun d => by
    unfold barPay
    refine bigSep_congr fun i hi => ?_
    have hd : dir i = d := (Finset.mem_filter.mp hi).2
    unfold land
    rw [hd, tgt_tgt']
  have hi : (bigSep Finset.univ fun i : Fin 120 => blkAny (F := F) c (dir i) (dslot i) (blk i))
      = iprop(barPay (tgt true c) false ∗ barPay (tgt false c) true) := by
    rw [bigSep_filter_split Finset.univ (fun i : Fin 120 => dir i = false)]
    refine congrArg₂ _ (hb false) (Eq.trans ?_ (hb true))
    congr 1
  have h0 : (bigSep Finset.univ fun b : Bool => iprop((buf b).view.loc (c : Thread nD τ) ↦{fullShare} f b) : sProp 𝕄)
      = iprop((bigSep Finset.univ fun i : Fin 120 => iprop((buf (dir i)).view.loc (c : Thread nD τ) ↦[blkSet (dir i) (dslot i, blk i)]{fullShare} f (dir i)))
          ∗ bigSep Finset.univ fun b : Bool => topPts c b (f b)) := by
    rw [bigSep_congr (s := Finset.univ) (fun (b : Bool) _ => pts_blocks c b (f b)),
      ← bigSep_univ_prod (fun x : Bool × (Fin 16 × Fin 4) => (iprop((buf x.1).view.loc (c : Thread nD τ) ↦[blkSet x.1 x.2]{fullShare} f x.1) : sProp 𝕄)),
      bigSep_univ_equiv inEquiv, bigSep_univ_sum,
      bigSep_congr (s := Finset.univ) (fun (b : Bool) _ => pts_top c b (f b)),
      ← bigSep_univ_prod (fun x : Bool × Fin 4 => (iprop((buf x.1).view.loc (c : Thread nD τ) ↦[blkSet x.1 (15, x.2)]{fullShare} f x.1) : sProp 𝕄))]
    rfl
  have h1 : (bigSep Finset.univ fun i : Fin 120 => (iprop((buf (dir i)).view.loc (c : Thread nD τ) ↦[blkSet (dir i) (dslot i, blk i)]{fullShare} f (dir i)) : sProp 𝕄))
      ⊢ bigSep Finset.univ fun i : Fin 120 => blkAny (F := F) c (dir i) (dslot i) (blk i) :=
    bigSep_mono fun i _ => blkAny_intro c (dir i) (dslot i) (blk i) (f (dir i))
  rw [split_bool, split_bool] at h0
  rw [h0]
  iintro ⟨Hi, Ht⟩
  ihave Hi' := h1 $$ Hi
  ihave Hi'' := (Entails.of_eq hi) $$ Hi'
  icases Hi'' with ⟨H0, H1⟩
  isplitl [H0]; · iexact H0
  isplitl [H1]; · iexact H1
  iexact Ht

/-- Blocks of every place make a buffer whole. -/
theorem whole_again (c : Dev nD) (b : Bool) (f₀ : (buf b).view.ty.Contents (Elt F)) :
    (bigSep Finset.univ fun x : Fin 16 × Fin 4 => blkAny (F := F) c b x.1 x.2) ⊢ bufPts c b := by
  have h1 : ∀ x : Fin 16 × Fin 4, (blkAny c b x.1 x.2 : sProp 𝕄)
      ⊢ iprop(∃ f : (buf b).view.ty.Contents (Elt F), (buf b).view.loc (c : Thread nD τ) ↦[blkSet b x]{fullShare} f) := fun x => by
    unfold blkAny
    simp only [blkAt_eq]
    iintro ⟨%w, %f, -, H⟩
    iexists f
    iexact H
  refine (bigSep_mono fun x _ => h1 x).trans ?_
  unfold bufPts
  exact Ring.pointsTo_blocks_join_exists (ℓ := (buf b).view.loc (c : Thread nD τ)) (blkSet b) (fun x y h => blkSet_disjoint b x y h) (blkSet_univ b) f₀

variable (m : (ℓ : Loc nD τ sig) → Buf (Elt F) ℓ)

/-- The source blocks that come back and the last landings are the two buffers again. -/
theorem collect (c : Dev nD) (f₀ : (b : Bool) → (buf b).view.ty.Contents (Elt F)) :
    iprop((bigSep Finset.univ fun i : Fin 120 => sndPay m c i)
        ∗ bigSep Finset.univ fun i : Fin 8 => blkAny (F := F) c (dir (lastI i)) (dslot (lastI i)) (blk (lastI i)))
      ⊢ iprop(bufPts c false ∗ bufPts c true) := by
  have h1 : ∀ i : Fin 120, sndPay m c i ⊢ blkAny (F := F) c (dir i) (sslot i) (blk i) := fun i => by
    unfold sndPay blkAny
    iintro H
    iexists _
    iexact H
  have h2 : iprop((bigSep Finset.univ fun i : Fin 120 => blkAny (F := F) c (dir i) (sslot i) (blk i))
        ∗ bigSep Finset.univ fun i : Fin 8 => blkAny (F := F) c (dir (lastI i)) (dslot (lastI i)) (blk (lastI i)))
      = bigSep Finset.univ fun b : Bool => bigSep Finset.univ fun x : Fin 16 × Fin 4 => blkAny (F := F) c b x.1 x.2 := by
    rw [← bigSep_univ_prod (fun x : Bool × (Fin 16 × Fin 4) => blkAny (F := F) c x.1 x.2.1 x.2.2), bigSep_univ_equiv outEquiv, bigSep_univ_sum]
    rfl
  refine (sep_mono_left (bigSep_mono fun i _ => h1 i)).trans ?_
  rw [h2]
  refine (bigSep_mono fun b _ => whole_again c b (f₀ b)).trans ?_
  rw [split_bool]
  exact BI.Entails.refl _

end Cert.KernelIdeal.Hop
-- ==== Proof.IdealBody.lean ====
/-
# The body on one device

`run_canon`: from its cells, tokens, credits, operand and buffers the kernel's steps run on any device `c` to the result
`outAt m c`, with every cell closed.
-/
module

public import proofs.«01_k».proof.Proof.IdealSplit
public import Idealize.ShloMosaic.Lib.Pointwise.Index

@[expose] public section

set_option maxRecDepth 16384

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- Device `c`'s result: row `r` is row `r % 64` of block `(r % 256) / 64` of the half `r / 256`. -/
def outAt (c : Dev nD) : (cc0_stg1_0 : Ref sig .tc).ty.Contents (Elt F) := fun p : S512x512.Idx =>
  outW m (decide (256 ≤ (p 0).val)) ⟨(p 0).val % 256 / 64, by omega⟩ c
    (ix2 (⟨(p 0).val % 64, Nat.mod_lt _ (by decide)⟩ : Fin 64) (p 1 : Fin 512))

omit [FloatOps F] in
/-- The last landings reach every row block of both directions. -/
theorem lastI_onto : ∀ (b : Bool) (j : Fin 4), ∃ i : Fin 8, dir (lastI i) = b ∧ blk (lastI i) = j := by decide +kernel

/-- A result all of whose eight blocks are made is `outAt`. -/
theorem outAt_of_blocks (c : Dev nD) (g : (cc0_stg1_0 : Ref sig .tc).ty.Contents (Elt F))
    (h : ∀ i : Fin 8, i.val < 8 → outRead (dir (lastI i)) (blk (lastI i)) g = outW m (dir (lastI i)) (blk (lastI i)) c) :
    g = outAt m c := by
  funext p
  have hp0 : (p 0).val < 512 := (p 0).isLt
  have hb : ∀ b j, outRead b j g = outW m b j c := fun b j => by
    obtain ⟨i, h1, h2⟩ := lastI_onto b j
    have := h i i.isLt
    rwa [h1, h2] at this
  have := congrFun (hb (decide (256 ≤ (p 0).val)) ⟨(p 0).val % 256 / 64, by omega⟩)
    (ix2 (⟨(p 0).val % 64, Nat.mod_lt _ (by decide)⟩ : Fin 64) (p 1 : Fin 512))
  refine Eq.trans (congrArg g ?_) this
  funext a
  refine Fin.ext ?_
  match a with
  | ⟨0, _⟩ =>
    show (p 0).val = (if decide (256 ≤ (p 0).val) = true then 256 else 0) + 64 * ((p 0).val % 256 / 64) + 1 * ((p 0).val % 64)
    by_cases h : 256 ≤ (p 0).val
    · rw [if_pos (decide_eq_true h)]; omega
    · rw [if_neg (by rw [decide_eq_true_eq]; exact h)]; omega
  | ⟨1, _⟩ => show (p 1).val = 0 + 1 * (p 1).val; omega

/-! ## The first eight sources -/

omit [FloatOps F] in
/-- The first eight transfers have different directions or row blocks, -/
theorem firstI_injective : Function.Injective (fun i : Fin 8 => ((dir (firstI i), blk (firstI i)) : Bool × Fin 4)) := by
  unfold Function.Injective; decide +kernel
/-- so they are the row blocks of both directions. -/
def firstEquiv : Fin 8 ≃ Bool × Fin 4 :=
  Equiv.ofBijective _ ((Fintype.bijective_iff_injective_and_card _).mpr ⟨firstI_injective, by simp⟩)
omit [FloatOps F] in
/-- They are sent from slot fifteen, -/
theorem firstI_sslot : ∀ i : Fin 8, sslot (firstI i) = 15 := by decide +kernel
omit [FloatOps F] in
/-- at step 0. -/
theorem firstI_div : ∀ i : Fin 8, (firstI i).val / 8 = 0 := by decide +kernel

/-- The blocks of slot fifteen are the sources of the first eight transfers. -/
theorem first_blocks (c : Dev nD) :
    iprop((bigSep Finset.univ fun j : Fin 4 => blkAt c false 15 j (part m false j 0 c)) ∗ bigSep Finset.univ fun j : Fin 4 => blkAt c true 15 j (part m true j 0 c))
      = bigSep Finset.univ fun i : Fin 8 => blkAt c (dir (firstI i)) (sslot (firstI i)) (blk (firstI i)) (sentW m (firstI i) c) := by
  have h : ∀ i : Fin 8, blkAt c (dir (firstI i)) (sslot (firstI i)) (blk (firstI i)) (sentW m (firstI i) c)
      = blkAt c (firstEquiv i).1 15 (firstEquiv i).2 (part m (firstEquiv i).1 (firstEquiv i).2 0 c) := fun i => by
    unfold sentW
    rw [firstI_sslot, firstI_div]
    rfl
  rw [bigSep_congr (s := Finset.univ) (fun (i : Fin 8) _ => h i),
    ← bigSep_univ_equiv firstEquiv (fun x : Bool × Fin 4 => blkAt c x.1 15 x.2 (part m x.1 x.2 0 c)), bigSep_univ_prod, split_bool]

/-- The landing buffers dealt out: the blocks that the neighbours' transfers land in go with the two signals, slot fifteen stays. -/
theorem deal' (c : Dev nD) (f₀ : (buf false).view.ty.Contents (Elt F)) (f₁ : (buf true).view.ty.Contents (Elt F)) :
    iprop(((buf false).view.loc (c : Thread nD τ) ↦{fullShare} f₀) ∗ ((buf true).view.loc (c : Thread nD τ) ↦{fullShare} f₁))
      ⊢ (iprop(barPay (tgt true c) false ∗ barPay (tgt false c) true ∗ topPts c false f₀ ∗ topPts c true f₁) : sProp 𝕄) :=
  deal c (fun b => match b with | false => f₀ | true => f₁)

/-- The blocks that came back, put together to whole landing buffers. -/
theorem collect' (c : Dev nD) (f₀ : (buf false).view.ty.Contents (Elt F)) (f₁ : (buf true).view.ty.Contents (Elt F)) :
    iprop((bigSep Finset.univ fun i : Fin 120 => sndPay m c i)
        ∗ bigSep Finset.univ fun i : Fin 8 => blkAny (F := F) c (dir (lastI i)) (dslot (lastI i)) (blk (lastI i)))
      ⊢ iprop(bufPts c false ∗ bufPts c true) :=
  collect m c (fun b => match b with | false => f₀ | true => f₁)

/-! ## The run -/

section Run
variable (K : Dev nD × CI → ℕ) (c : Dev nD) (Q : PUnit.{1} → sProp (MT nD τ sig Unit (Elt F) ℕ UU ℕ))

/-- What the steps of device `c` start from, beside its buffers: what every device knows, its positions at its cells, and
    the tokens of what it pays. -/
def ghost : sProp 𝕄 :=
  iprop(recs m K ∗ (bigSep Finset.univ fun k : CI => atPos ER (kcell c k) 0 ∅ 0)
    ∗ dutyTok ER (barCell (tgt true c)) 0 false ∗ dutyTok ER (barCell (tgt false c)) 0 true ∗ bigSep Finset.univ (toks c))
/-- What is promised to its cells. -/
def promised : sProp 𝕄 :=
  iprop(cred (tallyAt (barCell c) () 2) ∗ bigSep Finset.univ fun i : Fin 120 => cred (tallyAt (rcvCell c i) () N))
/-- Every cell of the device closed. -/
def closed : sProp 𝕄 := bigSep Finset.univ fun k : CI => semVal (kcell c k) 0

/-- The first loop. -/
theorem run_first (k : KProg F) :
    iprop(recs m K ∗ ow c (owed c 0)
        ∗ (bigSep Finset.univ fun i : Fin 8 => blkAt c (dir (firstI i)) (sslot (firstI i)) (blk (firstI i)) (sentW m (firstI i) c))
        ∗ (bigSep Finset.univ fun i : Fin 8 => land c (firstI i)) ∗ bigSep Finset.univ fun i : Fin 8 => toks c (firstI i))
      ⊢ iprop((iprop(ow c (owed c 8) ∗ bigSep Finset.univ fun i : Fin 8 => cred (tallyAt (sndCell c (firstI i)) () N)) -∗ run c k Q)
          -∗ run c (loop 8 (fun i => sendK c (firstI i)) k) Q) := by
  rw [← bigSep_sep' Finset.univ (fun i : Fin 8 => land (F := F) c (firstI i)), ← bigSep_sep']
  refine wp_loop c (recs m K) Q k 8 (fun i => sendK c (firstI i)) (fun n => ow c (owed c n)) _ _ fun i k => ?_
  iintro ⟨#HP, HO, Hb, Hl, Ht⟩ Hk
  iapply (wp_send m K c Q k (firstI i)) $$ [HO Hb Hl Ht]
  · isplitr; · iexact HP
    isplitl [Hb]; · iexact Hb
    isplitl [Hl]; · iexact Hl
    isplitl [HO]; · iexact HO
    iexact Ht
  iintro ⟨Hc, HO⟩
  iapply Hk
  isplitl [HO]; · iexact HO
  iexact Hc

/-- The middle loop. -/
theorem run_mid (k : KProg F) :
    iprop(recs m K ∗ iprop(xPts m c ∗ ow c (owed c 8)) ∗ bigSep Finset.univ (passPre c))
      ⊢ iprop((iprop(iprop(xPts m c ∗ ow c (owed c 120)) ∗ bigSep Finset.univ (passPost c)) -∗ run c k Q)
          -∗ run c (loop 112 (passK c) k) Q) :=
  wp_loop c (recs m K) Q k 112 (passK c) (fun n => iprop(xPts m c ∗ ow c (owed c (n + 8)))) _ _ fun i k => wp_pass m K c Q k i

/-- The loop of the last landings. -/
theorem run_last (k : KProg F) :
    iprop(recs m K ∗ iprop(xPts m c ∗ ow c (owed c 120) ∗ outPts m c 0) ∗ bigSep Finset.univ (lastPre c))
      ⊢ iprop((iprop(iprop(xPts m c ∗ ow c (owed c 120) ∗ outPts m c 8) ∗ bigSep Finset.univ (lastPost c)) -∗ run c k Q)
          -∗ run c (loop 8 (lastK c) k) Q) :=
  wp_loop c (recs m K) Q k 8 (lastK c) (fun n => iprop(xPts m c ∗ ow c (owed c 120) ∗ outPts m c n)) _ _ fun i k => wp_last m K c Q k i

/-- The loop of the departures. -/
theorem run_sent (k : KProg F) :
    iprop(recs m K ∗ ow c (owed c 120)
        ∗ bigSep Finset.univ fun i : Fin 120 => iprop(atPos ER (sndCell c i) 0 ∅ 0 ∗ cred (tallyAt (sndCell c i) () N)))
      ⊢ iprop((iprop(ow c (owed c 120) ∗ bigSep Finset.univ fun i : Fin 120 => iprop(sndPay m c i ∗ semVal (sndCell c i) 0)) -∗ run c k Q)
          -∗ run c (loop 120 sentK k) Q) :=
  wp_loop c (recs m K) Q k 120 sentK (fun _ => ow c (owed c 120)) _ _ fun i k => wp_sent m K c Q k i

/-- Either neighbour has a duty to the barrier. -/
theorem duty_bar (d : Bool) : d ∈ (hopRd m).duties (barCell c) 0 := by rw [duties_bar]; exact Finset.mem_univ _
/-- What a neighbour hands over pays its duty. -/
theorem pay_bar (d : Bool) : barPay c d ⊢ (hopRd m).payload ((c : Thread nD τ), .reg barS) 0 d := Entails.of_eq (payload_bar m c d).symm

/-- Where nothing is left to run, what holds is what was to be reached. -/
theorem run_ret : Q ⟨⟩ ⊢ run c (.ret ⟨⟩) Q := by
  unfold run
  rw [wp_ret]
  iintro H
  imodintro
  iexact H

set_option maxHeartbeats 1000000 in
/-- The kernel's steps run from all that the device starts with to its result. -/
theorem run_canon :
    iprop(ghost m K c ∗ promised c ∗ ow c (O₀ c) ∗ xPts m c ∗ (∃ g, (c : Thread nD τ).loc cc0_stg1_0 ↦{fullShare} g)
        ∗ bufPts c false ∗ bufPts c true)
      ⊢ iprop((iprop(xPts m c ∗ ((c : Thread nD τ).loc cc0_stg1_0 ↦{fullShare} outAt m c) ∗ (bufPts c false ∗ bufPts c true)
            ∗ closed c ∗ ow c 0) -∗ Q ⟨⟩) -∗ run c (canonAt c) Q) := by
  unfold ghost promised canonAt
  simp only [dev1_eq c, dev2_eq c]
  rw [split_cells, split_hi (fun i => (cred (tallyAt (rcvCell c i) () N) : sProp 𝕄)),
    split_hi (fun i => (atPos ER (rcvCell c i) 0 ∅ 0 : sProp 𝕄)), split_lo (toks (F := F) c)]
  iintro ⟨⟨#HP, ⟨HatB, HatS, HatR, HatL⟩, Htb0, Htb1, Htk0, Htk1⟩, ⟨HcB, HcR, HcL⟩, HO, Hx, ⟨%g, Hout⟩, Hb0, Hb1⟩ Hk
  unfold bufPts
  icases Hb0 with ⟨%f0, Hb0⟩
  icases Hb1 with ⟨%f1, Hb1⟩
  ihave Hd := (deal' (F := F) c f0 f1) $$ [Hb0 Hb1]
  · isplitl [Hb0]; · iexact Hb0
    iexact Hb1
  icases Hd with ⟨Hp0, Hp1, Ht0, Ht1⟩
  unfold ow
  icases HO with ⟨%W, HO⟩
  -- the signals: to each neighbour the blocks it sends into
  iapply (Rounds.wp_signal 𝒱₀ ER (hopRd m) (c : Thread nD τ) none (dst := (tgt true c : Thread nD τ)) (κ := K (tgt true c, none))
      (d := false) (duty_bar m (tgt true c) false) ((amount_bar m (tgt true c) false).trans (by decide)) () (O₁ c) rfl)
    $$ [HO Htb0 Hp0]
  · isplitr; · (iapply (recs_inv m K (tgt true c) none)); iexact HP
    isplitl [HO]; · iexact HO
    isplitl [Htb0]; · iexact Htb0
    isplitl [Hp0]; · (iapply (pay_bar m (tgt true c) false)); iexact Hp0
    (iapply (recs_reached m K (tgt true c) none)); iexact HP
  iintro HO
  iapply (Rounds.wp_signal 𝒱₀ ER (hopRd m) (c : Thread nD τ) none (dst := (tgt false c : Thread nD τ)) (κ := K (tgt false c, none))
      (d := true) (duty_bar m (tgt false c) true) ((amount_bar m (tgt false c) true).trans (by decide)) () (owed c 0) rfl)
    $$ [HO Htb1 Hp1]
  · isplitr; · (iapply (recs_inv m K (tgt false c) none)); iexact HP
    isplitl [HO]; · iexact HO
    isplitl [Htb1]; · iexact Htb1
    isplitl [Hp1]; · (iapply (pay_bar m (tgt false c) true)); iexact Hp1
    (iapply (recs_reached m K (tgt false c) none)); iexact HP
  iintro HO
  -- the barrier: the blocks this device sends into
  iapply (Rounds.wp_wait_rest_token 𝒱₀ ER (hopRd m) (c : Thread nD τ) none (κ := K (c, none)) (sm := csem none)
      (wpE_semWait_eq 𝒱₀ (c : Thread nD τ) none Set.univ) (Set.mem_univ _) () (O := owed c 0) (W := W) (R := 0) (m := 0) (T := ∅)
      (by rw [expect_bar])) $$ [HcB HO HatB]
  · isplitr; · (iapply (recs_inv m K c none)); iexact HP
    isplitl [HcB]; · iexact HcB
    isplitl [HO]; · iexact HO
    isplitr
    · iapply (mayWait_owed c none 0 (by rw [lv_bar]; decide))
      iapply (recs_lev m K); iexact HP
    iexact HatB
  iintro ⟨HO, HatB, -, Hpay⟩
  ihave Hland := (rest_bar m c) $$ Hpay
  imod (Rounds.cell_close ER (hopRd m) (Set.mem_univ (K (c, none))) (fun h => h) (R := 0 + 1) (duties_later m (barCell c))) $$ [HatB] with HzB
  · isplitr; · (iapply (recs_inv m K c none)); iexact HP
    iexact HatB
  ihave Hland' := (Entails.of_eq (split_lo (land (F := F) c))) $$ Hland
  icases Hland' with ⟨Hland0, Hland1⟩
  -- the fills
  iapply (wp_fill m c Q _ false f0) $$ [Hx Ht0]
  · isplitl [Hx]; · iexact Hx
    iexact Ht0
  iintro ⟨Hx, Hs0⟩
  iapply (wp_fill m c Q _ true f1) $$ [Hx Ht1]
  · isplitl [Hx]; · iexact Hx
    iexact Ht1
  iintro ⟨Hx, Hs1⟩
  ihave Hs := (Entails.of_eq (first_blocks m c)) $$ [Hs0 Hs1]
  · isplitl [Hs0]; · iexact Hs0
    iexact Hs1
  -- the loops
  iapply (run_first m K c Q _) $$ [HO Hs Hland0 Htk0]
  · isplitr; · iexact HP
    isplitl [HO]; · (unfold ow; iexists _; iexact HO)
    isplitl [Hs]; · iexact Hs
    isplitl [Hland0]; · iexact Hland0
    iexact Htk0
  iintro ⟨HO, HcS0⟩
  ihave Hpre := (Entails.of_eq (show iprop((bigSep Finset.univ fun i : Fin 112 => atPos ER (rcvCell c (passI i)) 0 ∅ 0)
        ∗ (bigSep Finset.univ fun i : Fin 112 => cred (tallyAt (rcvCell c (passI i)) () N))
        ∗ (bigSep Finset.univ fun i : Fin 112 => land c (nextI i)) ∗ bigSep Finset.univ fun i : Fin 112 => toks c (nextI i))
      = (bigSep Finset.univ (passPre c) : sProp 𝕄) from by unfold passPre; rw [bigSep_sep', bigSep_sep', bigSep_sep'])) $$ [HatR HcR Hland1 Htk1]
  · isplitl [HatR]; · iexact HatR
    isplitl [HcR]; · iexact HcR
    isplitl [Hland1]; · iexact Hland1
    iexact Htk1
  iapply (run_mid m K c Q _) $$ [Hx HO Hpre]
  · isplitr; · iexact HP
    isplitl [Hx HO]
    · isplitl [Hx]; · iexact Hx
      iexact HO
    iexact Hpre
  iintro ⟨⟨Hx, HO⟩, Hpost⟩
  ihave Hpost' := (Entails.of_eq (show (bigSep Finset.univ (passPost c) : sProp 𝕄)
      = iprop((bigSep Finset.univ fun i : Fin 112 => semVal (rcvCell c (passI i)) 0) ∗ bigSep Finset.univ fun i : Fin 112 => cred (tallyAt (sndCell c (nextI i)) () N))
      from by unfold passPost; rw [bigSep_sep'])) $$ Hpost
  icases Hpost' with ⟨HzR, HcS1⟩
  ihave Hpre := (Entails.of_eq (show iprop((bigSep Finset.univ fun i : Fin 8 => atPos ER (rcvCell c (lastI i)) 0 ∅ 0)
        ∗ (bigSep Finset.univ fun i : Fin 8 => cred (tallyAt (rcvCell c (lastI i)) () N)))
      = (bigSep Finset.univ (lastPre c) : sProp 𝕄) from by unfold lastPre; rw [bigSep_sep'])) $$ [HatL HcL]
  · isplitl [HatL]; · iexact HatL
    iexact HcL
  iapply (run_last m K c Q _) $$ [Hx HO Hout Hpre]
  · isplitr; · iexact HP
    isplitl [Hx HO Hout]
    · isplitl [Hx]; · iexact Hx
      isplitl [HO]; · iexact HO
      unfold outPts
      iexists g
      isplitr; · (ipureintro; exact fun i hi => absurd hi (Nat.not_lt_zero _))
      iexact Hout
    iexact Hpre
  iintro ⟨⟨Hx, HO, Hout⟩, Hpost⟩
  ihave Hpost' := (Entails.of_eq (show (bigSep Finset.univ (lastPost c) : sProp 𝕄)
      = iprop((bigSep Finset.univ fun i : Fin 8 => semVal (rcvCell c (lastI i)) 0)
          ∗ bigSep Finset.univ fun i : Fin 8 => blkAny c (dir (lastI i)) (dslot (lastI i)) (blk (lastI i)))
      from by unfold lastPost; rw [bigSep_sep'])) $$ Hpost
  icases Hpost' with ⟨HzL, Hbl⟩
  ihave Hpre := (Entails.of_eq (show iprop((bigSep Finset.univ fun i : Fin 120 => atPos ER (sndCell c i) 0 ∅ 0)
        ∗ (bigSep Finset.univ fun i : Fin 8 => cred (tallyAt (sndCell c (firstI i)) () N))
        ∗ (bigSep Finset.univ fun i : Fin 112 => cred (tallyAt (sndCell c (nextI i)) () N)))
      = (bigSep Finset.univ fun i : Fin 120 => iprop(atPos ER (sndCell c i) 0 ∅ 0 ∗ cred (tallyAt (sndCell c i) () N)) : sProp 𝕄) from by
        rw [bigSep_sep', split_lo (fun i => (cred (tallyAt (sndCell c i) () N) : sProp 𝕄))])) $$ [HatS HcS0 HcS1]
  · isplitl [HatS]; · iexact HatS
    isplitl [HcS0]; · iexact HcS0
    iexact HcS1
  iapply (run_sent m K c Q _) $$ [HO Hpre]
  · isplitr; · iexact HP
    isplitl [HO]; · iexact HO
    iexact Hpre
  rw [bigSep_sep', owed_last]
  iintro ⟨HO, Hsb, HzS⟩
  ihave Hbufs := (collect' m c f0 f1) $$ [Hsb Hbl]
  · isplitl [Hsb]; · iexact Hsb
    iexact Hbl
  unfold outPts
  icases Hout with ⟨%g', %hg', Hout⟩
  have hg := outAt_of_blocks m c g' hg'
  subst hg
  iapply (run_ret c Q)
  iapply Hk
  isplitl [Hx]; · iexact Hx
  isplitl [Hout]; · iexact Hout
  isplitl [Hbufs]; · (unfold bufPts; iexact Hbufs)
  isplitl [HzB HzR HzL HzS]
  · unfold closed
    rw [split_cells, split_hi (fun i => (semVal (rcvCell c i) 0 : sProp 𝕄))]
    isplitl [HzB]; · iexact HzB
    isplitl [HzS]; · iexact HzS
    isplitl [HzR]; · iexact HzR
    iexact HzL
  unfold ow
  iexact HO

end Run

end Cert.KernelIdeal.Hop
-- ==== Proof.IdealLaunch.lean ====
/-
# The launch

The proof data of the pipeline that stages the operand and the result, the body obligation, and the run of the whole
program on all devices: it terminates, and in every final state each device's result array holds what the pipeline wrote
of `outAt`, its operand is unchanged and every semaphore counter is at zero.
-/
module

public import proofs.«01_k».proof.Proof.IdealBody
public import proofs.«01_k».proof.Proof.Gen.KernelIdeal.Points
public import Idealize.ShloMosaic.Lib.Pipeline.FrameBody
public import Idealize.ShloMosaic.Lib.Pipeline.CollectiveSegs

@[expose] public section

set_option maxRecDepth 16384

noncomputable section

namespace Cert.KernelIdeal.Hop

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The initial state: the memory `m`, every semaphore counter at zero. -/
def s₀ : MemSt nD τ sig (Elt F) := ⟨m, fun _ => 0, ρ⟩

/-! ## The pipeline's proof data -/

/-- The pipeline has one grid step, -/
theorem cfg0_N : cfg0.N = 1 := by decide
/-- The grid's one point. -/
def t₀ : Fin cfg0.N := ⟨0, by rw [cfg0_N]; decide⟩
/-- the first. -/
theorem fin_N (t : Fin cfg0.N) : t = t₀ := by
  obtain ⟨t, ht⟩ := t; have := cfg0_N; exact Fin.ext (by simp only [t₀]; omega)

/-- What device `c`'s body starts from beside its buffers. -/
def start (c : Dev nD) : sProp 𝕄 := iprop((∃ K, ghost m K c) ∗ promised c ∗ levAts L lv)
/-- What the device holds before its body runs: its part of the ring and its landing buffers. -/
def Φ₀ (c : Dev nD) : sProp 𝕄 := iprop(start m c ∗ bufPts c false ∗ bufPts c true)
/-- What it ends with. -/
def Φ₁ (c : Dev nD) : sProp 𝕄 := iprop((bufPts c false ∗ bufPts c true) ∗ closed c)

/-- What the pipeline stages on each device: the operand in, the result out. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- A product over the two windows. -/
theorem bigSep_W (Φ : Fin cfg0.W → sProp 𝕄) : bigSep Finset.univ Φ = iprop(Φ (0 : Fin 2) ∗ Φ (1 : Fin 2)) := bigSep_W0 Φ

/-- The operand is fetched. -/
theorem fetch_0 (t : Fin cfg0.N) : (cfg0.win (0 : Fin 2)).fetch t = true := by rw [fin_N t]; rfl

/-! ## The body obligation -/

/-- Staging buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole buffer through its window, spelled out. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- What the body starts from, -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- and what it leaves. -/
def bodyPost (c : Dev nD) : sProp 𝕄 :=
  iprop(Φ₁ (F := F) c ∗ (dats m 0 c).owesAt () t₀.succ ∗ stg c cc0_stg0_0 (xstg m c) ∗ stg c cc0_stg1_0 (outAt m c))

/-- The body from what the pipeline holds before the point to what it holds after it. -/
theorem sound_body (c : Dev nD) : bodyPre m c ⊢ run c canon (fun _ => bodyPost m c) := by
  unfold bodyPre Φ₀ start canon run
  simp only [wp_deviceId]
  iintro ⟨⟨⟨⟨%K, Hg⟩, Hpr, -⟩, Hb0, Hb1⟩, Ho, ⟨%d0, %g0, %hg0, Hx⟩, ⟨%d1, %g1, -, Hout⟩⟩
  have hx : g0 = xstg m c := by rw [hg0]; unfold Dat.before; rw [if_pos (fetch_0 t₀)]; rfl
  subst hx
  unfold Dat.owesAt Pipeline.owesWithin
  icases Ho with ⟨%W, -, HO⟩
  rw [show (dats m 0 c).owed t₀.castSucc = O₀ c from rfl]
  iapply (run_canon m K c (fun _ => bodyPost m c)) $$ [Hg Hpr HO Hx Hout Hb0 Hb1]
  · isplitl [Hg]; · iexact Hg
    isplitl [Hpr]; · iexact Hpr
    isplitl [HO]; · (unfold ow; iexists W; iexact HO)
    isplitl [Hx]; · (unfold xPts; iexact Hx)
    isplitl [Hout]; · (iexists g1; iexact Hout)
    isplitl [Hb0]; · iexact Hb0
    iexact Hb1
  unfold xPts ow
  iintro ⟨Hx, Hout, Hb, Hz, ⟨%W', HO⟩⟩
  unfold bodyPost Φ₁ Dat.owesAt Pipeline.owesWithin
  rw [show (dats m 0 c).owed t₀.succ = 0 from rfl]
  isplitl [Hb Hz]
  · isplitl [Hb]; · iexact Hb
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The body at the grid's point is the canonical program. -/
theorem body_at : bodyAt0 (F := F) t₀ = canon := by
  have h : ∀ (a a' : Memref sig .tc .vmem S1x512x8192 .bf16) (ha : a.IsWhole) (ha' : a'.IsWhole) (o o' : Memref sig .tc .vmem S512x512 .f32)
      (ho : o.IsWhole) (ho' : o'.IsWhole), a = a' → o = o' →
      cc0_body (F := F) a ha o ho (buf false) (buf_whole _) (buf true) (buf_whole _) cc0_scratch2 cc0_scratch3 cc0_scratch4 cc0_scratch5
        = cc0_body (F := F) a' ha' o' ho' (buf false) (buf_whole _) (buf true) (buf_whole _) cc0_scratch2 cc0_scratch3 cc0_scratch4 cc0_scratch5 := by
    intro a a' ha ha' o o' ho ho' e e'
    subst e e'
    rfl
  exact (h _ _ (hstage0_0 0) (Memref.isWhole_whole _) _ _ (hstage0_1 0) (Memref.isWhole_whole _) rfl rfl).trans body_eq

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The obligation of the pipeline's library on device `c`. -/
theorem body_obligation (c : Dev nD) : BodyObligation (dats (F := F) m 0 c) (defs₀ (F := F)) 𝒱₀ () Set.univ := fun t => by
  rw [fin_N t]
  rw [bigSep_W, bigSep_W, defs₀_row, body_at]
  have a1 : (dats m 0 c).Φ t₀.castSucc = Φ₀ m c := rfl
  have a2 : (dats m 0 c).Φ t₀.succ = Φ₁ (F := F) c := rfl
  rw [a1, a2]
  refine triple_restated (sound_body m c) rfl ?_ fun _ => ?_
  · unfold bodyPre
    simp only [← owns_whole_eq]
    iintro ⟨H1, H2, H3, H4⟩
    isplitl [H1]; · iexact H1
    isplitl [H2]; · iexact H2
    isplitl [H3]
    · iexact H3
    · iexact H4
  · unfold bodyPost
    simp only [← owns_whole_eq]
    iintro ⟨H1, H2, H3, H4⟩
    isplitl [H1]; · iexact H1
    isplitl [H2]; · iexact H2
    isplitl [H3]; · iexact H3
    iexact H4

/-! ## The launch -/

/-- The kernel's own scoped semaphores. -/
abbrev osem : Bool × Fin 120 → SemLoc sig := fun k => .dma (semOf k)

/-- The staging semaphores are the first two. -/
theorem stage_small : ∀ (w : Fin 2) (s : Fin (spec0 w).nbuf), ((spec0 w).sem s).val < 2 := by decide
/-- The kernel's own semaphores are apart from the staging ones. -/
theorem ownSemFacts : Pipeline.OwnSemFacts cfg0.spec osem where
  isScoped k := semOf_scoped k
  inj k k' h := Option.some.inj (csem_injective (show csem (some k) = csem (some k') from h))
  disj k w s h := by
    have h1 : semOf k = (spec0 w).sem s := by injection h
    have h2 := two_le_semOf k
    have h3 := stage_small w s
    rw [h1] at h2
    omega

/-- Every window has its buffer to itself. -/
theorem share_eq (c : Dev nD) (w : Fin cfg0.W) : (dats m 0 c).share w = fullShare := by unfold Dat.share; split <;> rfl

/-- All the cells of the ring. -/
def ringCells : Finset (GSem nD τ sig) := Finset.univ.map ⟨fun ck : Dev nD × CI => kcell ck.1 ck.2, kcell_injective⟩

/-- A device's own cells' duty tokens as minted: its barrier's two, its departures' and arrivals' one each. -/
def tokOf (cj : Dev nD × (Bool ⊕ (Bool × Fin 120))) : GSem nD τ sig × ℕ × Bool := match cj.2 with
  | .inl d => (barCell cj.1, 0, d)
  | .inr k => (kcell cj.1 (some k), 0, false)
/-- Different duties have different tokens. -/
theorem tokOf_injective : Function.Injective tokOf := by
  rintro ⟨c, j⟩ ⟨c', j'⟩ h
  have h1 : c = c' := by
    have := congrArg (fun x : GSem nD τ sig × ℕ × Bool => x.1.1.1) h
    rcases j with j | j <;> rcases j' with j' | j' <;> exact this
  subst h1
  have h2 : ∀ k k' : CI, kcell c k = kcell c k' → k = k' := fun k k' h => csem_injective (congrArg Prod.snd h)
  rcases j with j | j <;> rcases j' with j' | j'
  · exact congrArg (fun d => (c, Sum.inl d)) (congrArg (fun x : GSem nD τ sig × ℕ × Bool => x.2.2) h)
  · exact absurd (h2 _ _ (congrArg Prod.fst h)) (fun h => by cases h)
  · exact absurd (h2 _ _ (congrArg Prod.fst h)) (fun h => by cases h)
  · exact congrArg (fun k => (c, Sum.inr k)) (Option.some.inj (h2 _ _ (congrArg Prod.fst h)))
/-- The tokens of all the duties. -/
def ringToks : Finset (GSem nD τ sig × ℕ × Bool) := Finset.univ.map ⟨tokOf, tokOf_injective⟩

/-- The ghost state that the launch begins with. -/
def u₀ : UU :=
  (initOf (Pipeline.cells cfgs cellOf_inj) (Pipeline.launchToks cfgs cellOf_inj), initOf ringCells ringToks)

/-- The duty tokens of device `c`'s own cells. -/
def mint (c : Dev nD) : sProp 𝕄 :=
  iprop((dutyTok ER (barCell c) 0 false ∗ dutyTok ER (barCell c) 0 true)
    ∗ (bigSep Finset.univ fun i : Fin 120 => dutyTok ER (sndCell c i) 0 false) ∗ bigSep Finset.univ fun i : Fin 120 => dutyTok ER (rcvCell c i) 0 false)

/-- What the launch deals device `c`. -/
def G (c : Dev nD) : sProp 𝕄 :=
  iprop((bigSep Finset.univ fun k : CI => roundState ER (hopRd m) (kcell c k) 0)
    ∗ (bigSep Finset.univ fun k : CI => iprop(atPos ER (kcell c k) 0 ∅ 0 ∗ reached ER (kcell c k) 0)) ∗ mint c)
/-- What it becomes with the invariants. -/
def G' (c : Dev nD) : sProp 𝕄 := iprop(∃ K, (levAts L lv : sProp 𝕄) -∗ ghost m K c)

/-- The rounds' ghost state gives every cell and duty its piece. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell c k) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    refine bigSep_congr fun c _ => ?_
    unfold mint
    rw [bigSep_univ_sum, split_bool, bigSep_univ_prod, split_bool]
    rfl
  iintro HX
  imod (Rounds.fund ER (hopRd m) ringCells ringToks) $$ HX with ⟨Hst, Hr, Hat, Htok⟩
  imodintro
  ihave Hst' := (Entails.of_eq (hX fun g => roundState ER (hopRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- At the start the barrier semaphore reads zero. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The kernel's own semaphores and the barrier are the device's cells. -/
theorem sems0_eq (c : Dev nD) :
    (iprop(Pipeline.ownSems0 (Ix := Unit) (Name := ℕ) (U := UU) (Lvl := ℕ) (Val := Elt F) (τ := τ) osem c ∗ unscopedSems0 c) : sProp 𝕄)
      = iprop((bigSep Finset.univ fun k : Bool × Fin 120 => semVal (kcell c (some k)) 0) ∗ semVal (barCell c) 0) := by
  rw [unscopedSems0_eq]
  unfold Pipeline.ownSems0
  rfl
/-- The closed cells of a device, spelled out. -/
theorem closed_eq (c : Dev nD) : (closed c : sProp 𝕄)
    = iprop(semVal (barCell c) 0 ∗ bigSep Finset.univ fun k : Bool × Fin 120 => semVal (kcell c (some k)) 0) := by
  unfold closed
  rw [split_cells, bigSep_univ_prod (fun k : Bool × Fin 120 => (semVal (kcell c (some k)) 0 : sProp 𝕄)), split_bool]

/-- A device's semaphores at zero, with the pieces of its cells, become the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (hopRd m) κ (kcell c k)))
          ∗ (bigSep Finset.univ fun k : CI => iprop(atPos ER (kcell c k) 0 ∅ 0 ∗ reached ER (kcell c k) 0)) ∗ mint c) := by
  unfold G
  iintro ⟨Hos, Hus, Hst, Hat, Htok⟩
  ihave Hv := (Entails.of_eq (sems0_eq (F := F) c)) $$ [Hos Hus]
  · isplitl [Hos] <;> iassumption
  icases Hv with ⟨Hv1, Hv0⟩
  ihave Hv := (Entails.of_eq (closed_eq (F := F) c).symm) $$ [Hv0 Hv1]
  · isplitl [Hv0] <;> iassumption
  unfold closed
  imod (show iprop((bigSep Finset.univ fun k : CI => semVal (kcell c k) 0) ∗ bigSep Finset.univ fun k : CI => roundState ER (hopRd m) (kcell c k) 0)
      ⊢ (|={Set.univ}=> bigSep Finset.univ fun k : CI => iprop(∃ κ : ℕ, cellInv ER (hopRd m) κ (kcell c k)) : sProp 𝕄) from by
        rw [← bigSep_sep']
        exact (bigSep_mono fun k _ => (Rounds.body_intro ER (hopRd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties that device `c` pays. -/
def payToks (c : Dev nD) : sProp 𝕄 :=
  iprop(dutyTok ER (barCell (tgt true c)) 0 false ∗ dutyTok ER (barCell (tgt false c)) 0 true ∗ bigSep Finset.univ (toks c))

omit [FloatOps F] in
/-- The tokens go round to those who pay with them. -/
theorem toks_around : (bigSep Finset.univ fun c : Dev nD => (mint c : sProp 𝕄)) ⊢ bigSep Finset.univ fun c : Dev nD => payToks c := by
  have hr : (bigSep Finset.univ fun c : Dev nD => bigSep Finset.univ fun i : Fin 120 => (dutyTok ER (rcvCell c i) 0 false : sProp 𝕄))
      = bigSep Finset.univ fun c : Dev nD => bigSep Finset.univ fun i : Fin 120 => dutyTok ER (rcvCell (tgt (dir i) c) i) 0 false := by
    rw [bigSep_univ_comm, bigSep_univ_comm (fun (c : Dev nD) (i : Fin 120) => (dutyTok ER (rcvCell (tgt (dir i) c) i) 0 false : sProp 𝕄))]
    exact bigSep_congr fun i _ => bigSep_univ_equiv (around (dir i)) (fun c : Dev nD => (dutyTok ER (rcvCell c i) 0 false : sProp 𝕄))
  have ht : (fun c : Dev nD => bigSep Finset.univ (toks (F := F) c))
      = fun c => iprop((bigSep Finset.univ fun i : Fin 120 => dutyTok ER (sndCell c i) 0 false)
          ∗ bigSep Finset.univ fun i : Fin 120 => dutyTok ER (rcvCell (tgt (dir i) c) i) 0 false) :=
    funext fun c => by unfold toks; rw [bigSep_sep']
  unfold mint payToks
  rw [bigSep_sep', bigSep_sep', bigSep_sep', bigSep_sep', bigSep_sep', ht, bigSep_sep', hr,
    bigSep_univ_equiv (around true) (fun c : Dev nD => (dutyTok ER (barCell c) 0 false : sProp 𝕄)),
    bigSep_univ_equiv (around false) (fun c : Dev nD => (dutyTok ER (barCell c) 0 true : sProp 𝕄))]
  iintro ⟨⟨H1, H2⟩, H3, H4⟩
  isplitl [H1]; · iexact H1
  isplitl [H2]; · iexact H2
  isplitl [H3]; · iexact H3
  iexact H4

/-- What the devices share before the levels are known. -/
def records (K : Dev nD × CI → ℕ) : sProp 𝕄 :=
  iprop((bigSep Finset.univ fun ck : Dev nD × CI => cellInv ER (hopRd m) (K ck) (kcell ck.1 ck.2))
    ∗ bigSep Finset.univ fun ck : Dev nD × CI => reached ER (kcell ck.1 ck.2) 0)
instance records_persistent (K : Dev nD × CI → ℕ) : BI.Persistent (records m K) := by unfold records; infer_instance

/-- The records and a device's tokens make up what its body needs of the ring. -/
theorem ghost_intro (K : Dev nD × CI → ℕ) (c : Dev nD) :
    iprop(records m K ∗ ((bigSep Finset.univ fun k : CI => atPos ER (kcell c k) 0 ∅ 0) ∗ payToks c)) ⊢ G' m c := by
  unfold records payToks G' ghost recs
  iintro ⟨⟨#HI, #HR⟩, Hat, H1, H2, H3⟩
  iexists K
  iintro #Hlev
  isplitr
  · isplitr; · iexact HI
    isplitr; · iexact HR
    iexact Hlev
  isplitl [Hat]; · iexact Hat
  isplitl [H1]; · iexact H1
  isplitl [H2]; · iexact H2
  iexact H3

/-- The tokens of all the duties, handed to the devices that pay them. -/
theorem regroup :
    (bigSep Finset.univ fun c : Dev nD => iprop((bigSep Finset.univ fun k : CI => iprop(∃ κ : ℕ, cellInv ER (hopRd m) κ (kcell c k)))
          ∗ (bigSep Finset.univ fun k : CI => iprop(atPos ER (kcell c k) 0 ∅ 0 ∗ reached ER (kcell c k) 0)) ∗ mint c) : sProp 𝕄)
      ⊢ bigSep Finset.univ (G' m) := by
  rw [bigSep_sep', bigSep_sep', ← bigSep_univ_prod (fun ck : Dev nD × CI => iprop(∃ κ : ℕ, cellInv ER (hopRd m) κ (kcell ck.1 ck.2))),
    bigSep_congr (s := Finset.univ) (fun (c : Dev nD) _ => bigSep_sep' Finset.univ (fun k : CI => (atPos ER (kcell c k) 0 ∅ 0 : sProp 𝕄)) (fun k => reached ER (kcell c k) 0)),
    bigSep_sep', ← bigSep_univ_prod (fun ck : Dev nD × CI => (reached ER (kcell ck.1 ck.2) 0 : sProp 𝕄))]
  iintro ⟨HI, ⟨Hat, #HR⟩, Htok⟩
  ihave HK := (BI.bigSep_exists_pi Finset.univ (fun (ck : Dev nD × CI) (κ : ℕ) => (cellInv ER (hopRd m) κ (kcell ck.1 ck.2) : sProp 𝕄))) $$ HI
  icases HK with ⟨%K, #HI⟩
  ihave Htk := (toks_around (F := F)) $$ Htok
  have hp : iprop(records m K ∗ bigSep Finset.univ fun c : Dev nD => iprop((bigSep Finset.univ fun k : CI => atPos ER (kcell c k) 0 ∅ 0) ∗ payToks c))
      ⊢ bigSep Finset.univ (G' m) :=
    (sep_mono_left (BI.bigSep_of_persistent Finset.univ (records m K))).trans (by rw [← bigSep_sep']; exact bigSep_mono fun c _ => ghost_intro m K c)
  rw [bigSep_sep'] at hp
  iapply hp
  isplitr
  · unfold records; isplitl; · iexact HI
    iexact HR
  isplitl [Hat]; · iexact Hat
  iexact Htk

/-- All devices' own and unscoped semaphores become their cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
/-- What the devices owe is what each is promised. -/
theorem creds (c : Dev nD) : (Pipeline.launchCred O₀ c : sProp 𝕄) ⊢ promised c := by
  have h1 : (Pipeline.launchCred O₀ c : sProp 𝕄)
      = iprop(((bigSep (Finset.univ.filter fun i : Fin 120 => 0 ≤ i.val) fun i => Pipeline.launchCred (fun d => tallyAt (rcvCell (tgt (dir i) d) i) () N) c)
          ∗ Pipeline.launchCred (fun d => tallyAt (barCell (tgt false d)) () 1) c) ∗ Pipeline.launchCred (fun d => tallyAt (barCell (tgt true d)) () 1) c) := by
    rw [← Pipeline.launchCred_sum]
    show (Pipeline.launchCred (fun d => owed d 0 + tallyAt (barCell (tgt false d)) () 1 + tallyAt (barCell (tgt true d)) () 1) c : sProp 𝕄) = _
    rw [Pipeline.launchCred_add, Pipeline.launchCred_add]
    rfl
  have hf : (Finset.univ.filter fun i : Fin 120 => 0 ≤ i.val) = Finset.univ := Finset.filter_true_of_mem fun _ _ => Nat.zero_le _
  have hr : ∀ i : Fin 120, (Pipeline.launchCred (fun d => tallyAt (rcvCell (tgt (dir i) d) i) () N) c : sProp 𝕄) ⊢ cred (tallyAt (rcvCell c i) () N) := fun i =>
    Pipeline.launchCred_tallyAt (csem (some (true, i))) (tgt (dir i)) (tgt (!(dir i))) (tgt_tgt' _) (tgt_tgt _) () N c
  have hb : ∀ b, (Pipeline.launchCred (fun d => tallyAt (barCell (tgt b d)) () 1) c : sProp 𝕄) ⊢ cred (tallyAt (barCell c) () 1) := fun b =>
    Pipeline.launchCred_tallyAt (csem none) (tgt b) (tgt (!b)) (tgt_tgt' _) (tgt_tgt _) () 1 c
  have h2 : (tallyAt (barCell c) () 2 : CellTallies nD τ sig Unit) = tallyAt (barCell c) () 1 + tallyAt (barCell c) () 1 := (tallyAt_add _ _ 1 1).symm
  rw [h1, hf]
  unfold promised
  rw [h2]
  iintro ⟨⟨Hr, H0⟩, H1⟩
  isplitl [H0 H1]
  · iapply (cred_add _ _).2
    isplitl [H0]
    · iapply (hb false); iexact H0
    · iapply (hb true); iexact H1
  · have hm : (bigSep Finset.univ fun i : Fin 120 => Pipeline.launchCred (fun d => tallyAt (rcvCell (tgt (dir i) d) i) () N) c : sProp 𝕄)
        ⊢ bigSep Finset.univ fun i : Fin 120 => cred (tallyAt (rcvCell c i) () N) := bigSep_mono fun i _ => hr i
    iapply hm
    iexact Hr

/-! ### The theorem's side conditions -/

/-- A device's start from what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, #Hlev, Hcr, -, HG⟩
  ihave Hc := (creds (F := F) c) $$ Hcr
  imodintro
  unfold start G'
  icases HG with ⟨%K, HG⟩
  isplitl
  · isplitl [HG]
    · iexists K
      iapply HG
      iexact Hlev
    isplitl [Hc]; · iexact Hc
    iexact Hlev
  · iempintro

/-- The kernel's own buffers are the two landing buffers. -/
theorem bufs_eq (c : Dev nD) :
    (Pipeline.scopedRest (Ix := Unit) (Name := ℕ) (U := UU) (Lvl := ℕ) (Val := Elt F) (τ := τ) cfg0.spec c : sProp 𝕄) = iprop(bufPts c false ∗ bufPts c true) :=
  scopedRest0_eq c

/-- At the body's entry all that it needs is there, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨Hs, -, Hr⟩
  isplitl [Hs]; · iexact Hs
  iexact Hr

/-- and at its exit all is given back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, bufs_eq]
  unfold Φ₁
  rw [closed_eq]
  iintro ⟨Hb, Hz0, Hz1⟩
  ihave Hz := (Entails.of_eq (sems0_eq (F := F) c).symm) $$ [Hz0 Hz1]
  · isplitl [Hz1] <;> iassumption
  icases Hz with ⟨Hz1, Hz0⟩
  isplitl [Hz0]; · iexact Hz0
  isplitl [Hz1]; · iexact Hz1
  iexact Hb

/-- The staging semaphores are none of the ring's. -/
theorem stage_tag : ∀ (w : Fin 2) (s : Fin (spec0 w).nbuf), tagD ((spec0 w).sem s) = none := by decide

/-- The staging may wait: its semaphores lie below all that is owed. -/
theorem waits (c : Dev nD) : (levAts L lv : sProp 𝕄) ⊢ Pipeline.cellsWaits cfgs (dats m) () 0 c :=
  Pipeline.cellsWaits_intro cfgs (dats m) () 0 c fun w s t =>
    mayWait_stage c _ (by show (tagD ((spec0 w).sem s)).map some = none; rw [stage_tag]; rfl) _ (by
      rcases t with ⟨_ | _, ht⟩
      · exact Or.inl rfl
      · exact Or.inr rfl)

/-! ### The run -/

/-- What array `w` of device `c` holds at the end. -/
def finalA (c : Dev nD) (w : Fin cfg0.W) : Buf (Elt F) ((cfg0.win w).arr.view.loc (c : Thread nD τ)) := (dats m 0 c).arrAt w cfg0.N

set_option maxRecDepth 65536 in
/-- On the sixteen devices, from any memory with zero counters: every weakly fair execution terminates, and every final
    state has each device's arrays at `finalA` and every semaphore counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand after the run is what it was. -/
theorem finalA_x (c : Dev nD) : finalA m c (0 : Fin 2) = m (win0_0.arr.view.loc (c : Thread nD τ)) :=
  (dats (F := F) m 0 c).arrAt_in (0 : Fin 2) rfl _

end Cert.KernelIdeal.Hop
-- ==== Proof.IdealSum.lean ====
/-
# The values over the reals

At the ideal instance, where floats are extended reals, operations exact and format changes the identity, the partial sum
that travels is a sum over the devices it has passed, and every device's result is the sum over all sixteen devices.
-/
module

public import proofs.«01_k».proof.Proof.IdealLaunch
public import proofs.«01_k».proof.Proof.Gen.ReferenceIdeal.Run
public import Idealize.ShloMosaic.Lib.ValueIdx
public import Idealize.ShloMosaic.Lib.ValueLayout
public import Idealize.ShloMosaic.Lib.Layout
public import Idealize.ShloMosaic.Lib.Pointwise.Tactic
public import Idealize.ShloMosaic.Lib.IdealHost
public import Idealize.ShloMosaic.PureOps.Ideal.Laws

@[expose] public section

set_option maxRecDepth 16384

noncomputable section

namespace Cert.KernelIdeal.Hop

open Cert.KernelIdeal Cert.KernelIdeal.Gen
open Idealize.ShloMosaic Idealize.ShloMosaic.TcCoe
open Idealize.SL.Sem

variable (m : (ℓ : Loc nD τ sig) → Buf (Elt Ideal) ℓ)

/-! ## The addresses -/

/-- The device `n` steps further round in direction `b`. -/
def ahead (b : Bool) (n : ℕ) (c : Dev nD) : Dev nD := (tgt b)^[n] c

/-- The first row of block `j` of direction `b`. -/
def row0 (b : Bool) (j : Fin 4) : ℕ := (if b then 256 else 0) + 64 * j.val

/-- What is added before step `s + 1` are the columns of the device that the sum is on its way to. -/
theorem xoff_eq : ∀ (b : Bool) (j : Fin 4) (c : Dev nD) (s : Fin 14),
    xoffW b j c (BitVec.ofNat 32 (s.val + 1)) = ![0, row0 b j, 512 * (ahead b (14 - s.val) c).val] := by decide +kernel
/-- What is added to the last landing are the device's own columns. -/
theorem ooff_eq : ∀ (b : Bool) (j : Fin 4) (c : Dev nD), ooffW b j c = ![0, row0 b j, 512 * c.val] := by decide +kernel
/-- Step 0 sends the columns of the device fifteen steps away. -/
theorem foff_eq : ∀ (b : Bool) (c : Dev nD), foffW b c = ![0, if b then 256 else 0, 512 * (ahead b 15 c).val] := by decide +kernel

/-- Going back round from `c` meets every device once. -/
theorem back_bijective (b : Bool) (c : Dev nD) : Function.Bijective fun k : Fin 16 => ahead b k.val c := by
  rw [← Finite.injective_iff_bijective]
  intro k k' h
  revert k k'
  revert b c
  decide +kernel

/-! ## The operand -/

/-- The entry of device `c`'s operand at row `r`, column `q` (zero outside). -/
def at2 (c : Dev nD) (r q : ℕ) : EReal :=
  if h : r < 512 ∧ q < 8192 then m ((c : Thread nD τ).loc main_arg0) (ix3 (0 : Fin 1) (⟨r, h.1⟩ : Fin 512) (⟨q, h.2⟩ : Fin 8192)) else 0

/-- The staged operand is the operand. -/
theorem xstg_eq (c : Dev nD) : xstg m c = m ((c : Thread nD τ).loc main_arg0) := by
  unfold xstg
  funext i
  rw [View.read_apply]
  refine (congrArg (m ((c : Thread nD τ).loc main_arg0)) (?_ : (win0_0.blk (0 : Fin 1)).view.emb i = i))
  funext a
  refine Fin.ext ?_
  match a with
  | ⟨0, _⟩ => show 0 * 1 + 1 * (i 0).val = (i 0).val; omega
  | ⟨1, _⟩ => show 0 * 512 + 1 * (i 1).val = (i 1).val; omega
  | ⟨2, _⟩ => show 0 * 8192 + 1 * (i 2).val = (i 2).val; omega

/-- An element of the staged operand, by its row and column. -/
theorem xstg_at (c : Dev nD) (r q : ℕ) (i : S1x512x8192.Idx) (h1 : (i 1).val = r) (h2 : (i 2).val = q) :
    xstg m c i = at2 m c r q := by
  have b1 : (i 1).val < 512 := (i 1).isLt
  have b2 : (i 2).val < 8192 := (i 2).isLt
  subst h1 h2
  rw [xstg_eq, at2, dif_pos ⟨b1, b2⟩]
  congr 1
  funext a
  refine Fin.ext ?_
  match a with
  | ⟨0, _⟩ => have h : (i 0).val < 1 := (i 0).isLt; show (i 0).val = 0; omega
  | ⟨1, _⟩ => rfl
  | ⟨2, _⟩ => rfl

/-- A block of 64 rows and 512 columns loaded from the operand at an offset. -/
theorem load_at (c : Dev nD) (off : Fin 3 → ℕ) (inb : ∀ a, off a + S1x64x512.size a ≤ S1x512x8192.size a) (r q : ℕ) (hoff : off = ![0, r, q])
    (p : Fin 64) (l : Fin 512) :
    shapeCast S64x512 (xM.view.readAt (Elt Ideal) (Rect.unit (s := S1x512x8192) off S1x64x512.size inb).toLoadRect (xstg m c)) shapeCasts_S1x64x512_S64x512 (ix2 p l)
      = at2 m c (r + p.val) (q + l.val) := by
  subst hoff
  refine (ValueIdx.shapeCast_1ab_ab_apply _ _ p l).trans ?_
  rw [View.readAt_apply]
  refine xstg_at m c _ _ _ ?_ ?_
  · show r + 1 * p.val = _; omega
  · show q + 1 * l.val = _; omega

/-- An element of the block that is added before a later step. -/
theorem xAdd_at (b : Bool) (j : Fin 4) (c : Dev nD) (s : Fin 14) (p : Fin 64) (l : Fin 512) :
    xAdd m b j c s (ix2 p l) = at2 m c (row0 b j + p.val) (512 * (ahead b (14 - s.val) c).val + l.val) :=
  load_at m c _ _ _ _ (xoff_eq b j c s) p l

/-- An element of the device's own block. -/
theorem xLast_at (b : Bool) (j : Fin 4) (c : Dev nD) (p : Fin 64) (l : Fin 512) :
    xLast m b j c (ix2 p l) = at2 m c (row0 b j + p.val) (512 * c.val + l.val) :=
  load_at m c _ _ _ _ (ooff_eq b j c) p l

/-- An element of what step 0 sends. -/
theorem fill_at (b : Bool) (j : Fin 4) (c : Dev nD) (p : Fin 64) (l : Fin 512) :
    part m b j 0 c (ix2 p l) = at2 m c (row0 b j + p.val) (512 * (ahead b 15 c).val + l.val) := by
  unfold part
  refine (ValueIdx.shapeCast_1ab_ab_apply _ _ p l).trans ?_
  show fillV m b c ((subR j).emb (ix3 (0 : Fin 1) p l)) = _
  have hoff := foff_eq b c
  unfold fillV fillPay
  refine (congrFun (shapeCast_shapeCast _ _ _) _).trans ?_
  show xM.view.readAt (Elt Ideal) (fxR b c).toLoadRect (xstg m c) ((subR j).emb (ix3 (0 : Fin 1) p l)) = _
  refine (View.readAt_apply ..).trans ?_
  refine xstg_at m c _ _ _ ?_ ?_
  · show foffW b c 1 + 1 * (64 * j.val + 1 * p.val) = _
    rw [hoff]; show (if b then 256 else 0) + 1 * (64 * j.val + 1 * p.val) = _
    unfold row0; omega
  · show foffW b c 2 + 1 * (0 + 1 * l.val) = _
    rw [hoff]; show 512 * (ahead b 15 c).val + 1 * (0 + 1 * l.val) = _
    omega

/-! ## The partial sums -/

/-- What device `c` sends at step `s` is the sum, over itself and the `s` devices behind it, of their columns for the
    device `15 - s` steps ahead. -/
theorem part_at (b : Bool) (j : Fin 4) (p : Fin 64) (l : Fin 512) : ∀ (s : ℕ) (hs : s < 15) (c : Dev nD),
    part m b j s c (ix2 p l)
      = ∑ k ∈ Finset.range (s + 1), at2 m (ahead (!b) k c) (row0 b j + p.val) (512 * (ahead b (15 - s) c).val + l.val)
  | 0, _, c => by
    rw [fill_at, Finset.sum_range_one]; rfl
  | s + 1, hs, c => by
    unfold part
    rw [ValueIdx.addf_apply, part_at b j p l s (by omega), xAdd_at]
    have h1 : ahead b (15 - s) (tgt (!b) c) = ahead b (14 - s) c := by
      rw [show 15 - s = (14 - s) + 1 by omega]
      unfold ahead
      rw [Function.iterate_succ_apply, tgt_tgt']
    have h2 : s % 14 = s := Nat.mod_eq_of_lt (by omega)
    rw [Finset.sum_range_succ' _ (s + 1), h1, show 15 - (s + 1) = 14 - s by omega]
    simp only [h2]
    rfl

/-- What a device makes of the last landing is the sum over all devices of their columns for it. -/
theorem outW_at (b : Bool) (j : Fin 4) (c : Dev nD) (p : Fin 64) (l : Fin 512) :
    outW m b j c (ix2 p l) = ∑ d : Dev nD, at2 m d (row0 b j + p.val) (512 * c.val + l.val) := by
  unfold outW
  rw [ValueIdx.addf_apply, ValueIdx.extf_apply, ValueIdx.extf_apply, part_at m b j p l 14 (by omega), xLast_at]
  have h1 : ahead b (15 - 14) (tgt (!b) c) = c := tgt_tgt' b c
  rw [h1, ← (back_bijective (!b) c).sum_comp fun d => at2 m d (row0 b j + p.val) (512 * c.val + l.val),
    Fin.sum_univ_eq_sum_range (fun k => at2 m (ahead (!b) k c) (row0 b j + p.val) (512 * c.val + l.val)) 16,
    Finset.sum_range_succ' _ 15]
  rfl

/-- Device `c`'s result: entry `(r, l)` is the sum over the devices of entry `(r, 512 c + l)` of their operands. -/
theorem outAt_at (c : Dev nD) (i : S512x512.Idx) :
    outAt m c i = ∑ d : Dev nD, at2 m d (i 0).val (512 * c.val + (i 1).val) := by
  unfold outAt
  refine (outW_at m _ _ c _ _).trans ?_
  have h0 : (i 0).val < 512 := (i 0).isLt
  refine Finset.sum_congr rfl fun d _ => ?_
  congr 1
  unfold row0
  by_cases h : 256 ≤ (i 0).val
  · rw [decide_eq_true h, if_pos rfl]; show 256 + 64 * ((i 0).val % 256 / 64) + (i 0).val % 64 = _; omega
  · rw [decide_eq_false h, if_neg (by decide)]; show 0 + 64 * ((i 0).val % 256 / 64) + (i 0).val % 64 = _; omega

/-! ## The result array -/

/-- The result array ends holding `outAt`. -/
theorem finalA_out (c : Dev nD) : finalA m c (1 : Fin 2) = outAt m c := by
  have hid : ∀ (t : Fin cfg0.N) (i : S512x512.Idx), (win0_1.blk t).view.emb i = i := fun t i => by
    funext a
    refine Fin.ext ?_
    match a with
    | ⟨0, _⟩ => show 0 * 512 + 1 * (i 0).val = (i 0).val; omega
    | ⟨1, _⟩ => show 0 * 512 + 1 * (i 1).val = (i 1).val; omega
  refine Pipeline.Dat.arrAt_eq_of_cover (dats m 0 c) (1 : Fin 2) (outAt m c) (fun t _ => ?_) fun i => ⟨t₀, ?_, ?_⟩
  · funext i
    rw [View.read_apply]
    exact (congrArg (outAt m c) (hid t i)).symm
  · rfl
  · have := (win0_1.blk t₀).view.emb_mem_set i
    rwa [hid] at this

/-! ## The reference -/

/-- The reference's result of its argument `x`. -/
abbrev refOut (x : Cert.ReferenceIdeal.S16x512x8192.Idx → EReal) : FVec Ideal Cert.ReferenceIdeal.S512x8192 .f32 :=
  extf .f32 (truncf .bf16 (Host.reduceAdd (extf .f32 (x : FVec Ideal Cert.ReferenceIdeal.S16x512x8192 .bf16) Cert.ReferenceIdeal.Gen.bitsLt_bf16_f32)
    (constant Cert.ReferenceIdeal.S_ .f32 0x00000000#32) Cert.ReferenceIdeal.Gen.reducesTo_S16x512x8192_S512x8192_d0 Cert.ReferenceIdeal.Gen.h_S_)
    Cert.ReferenceIdeal.Gen.bitsLt_bf16_f32) Cert.ReferenceIdeal.Gen.bitsLt_bf16_f32

/-- The reference's result at an index is the sum over the first axis. -/
theorem ref_at (x : Cert.ReferenceIdeal.S16x512x8192.Idx → EReal) (i : Cert.ReferenceIdeal.S512x8192.Idx) :
    refOut x i
      = ∑ k : Fin 16, x (ix3 k (i 0 : Fin 512) (i 1 : Fin 8192)) := by
  unfold refOut
  rw [ValueIdx.extf_apply, ValueIdx.truncf_apply, ValueIdx.hostReduceAdd_apply,
    Ideal.hostReduceAdd_single _ (by decide : Shape.Reduces Cert.ReferenceIdeal.S16x512x8192 [0] Cert.ReferenceIdeal.S512x8192),
    ValueIdx.constant_apply]
  refine (congrArg (· + _) (Ideal.ofBits_zero .f32)).trans ((zero_add _).trans ?_)
  refine Finset.sum_congr rfl fun k _ => ?_
  rw [ValueIdx.extf_apply]
  congr 1
  funext a
  refine Fin.ext ?_
  match a with
  | ⟨0, _⟩ => rfl
  | ⟨1, _⟩ => rfl
  | ⟨2, _⟩ => rfl

/-! ## The two agree -/

/-- Where every device holds its block of one array `x`, device `c`'s result is block `c`, by columns, of the reference's. -/
theorem outAt_eq_block (x : Cert.ReferenceIdeal.S16x512x8192.Idx → EReal)
    (h : ∀ c : Dev nD, m ((c : Thread nD τ).loc main_arg0) = Layout.block ⟨3, ![1, 512, 8192]⟩ ⟨3, ![16, 512, 8192]⟩ 0 16 c x) (c : Dev nD) :
    outAt m c = Layout.block ⟨2, ![512, 512]⟩ ⟨2, ![512, 8192]⟩ 1 16 c (refOut x) := by
  funext i
  have h0 : (i 0).val < 512 := (i 0).isLt
  have h1 : (i 1).val < 512 := (i 1).isLt
  have hc : c.val < 16 := c.isLt
  refine (outAt_at m c i).trans ?_
  refine Eq.trans ?_ (ref_at x _).symm
  refine Finset.sum_congr (M := EReal) rfl fun (d : Fin 16) _ => ?_
  unfold at2
  rw [dif_pos ⟨h0, by omega⟩, h d]
  refine congrArg x ?_
  funext a
  refine Fin.ext ?_
  match a with
  | ⟨0, _⟩ => show d.val * 1 + 0 = d.val; omega
  | ⟨1, _⟩ => rfl
  | ⟨2, _⟩ => show 512 * c.val + (i 1).val = c.val * 512 + (i 1).val; omega

end Cert.KernelIdeal.Hop
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealLaunch
public import proofs.«01_k».proof.Proof.IdealSum
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel runs on the sixteen devices to the end, leaves the operands as they were and every semaphore at zero. -/
theorem frame_kernel : Cert.quiescent_Kernel := fun m g _ =>
  (θ_run Cert.Kernel.defs _ _).mono (fun _ h => ⟨fun c => (h.1 c (0 : Fin 2)).trans (Cert.Kernel.Hop.finalA_x m c), h.2⟩)
    (Cert.Kernel.Hop.run_main (F := Bits) m g)

/-- So does its ideal reading. -/
theorem frame_kernelIdeal : Cert.quiescent_KernelIdeal := fun m g _ =>
  (θ_run Cert.KernelIdeal.defs _ _).mono (fun _ h => ⟨fun c => (h.1 c (0 : Fin 2)).trans (Cert.KernelIdeal.Hop.finalA_x m c), h.2⟩)
    (Cert.KernelIdeal.Hop.run_main (F := Ideal) m g)

/-- The reference runs on one device, its argument unchanged; it has no semaphores. -/
theorem frame_referenceIdeal : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Over the reals every device's result is its block of columns of the reference's. -/
theorem agree : Cert.algebraic_KernelIdeal_ReferenceIdeal := fun m g m' g' _ h =>
  ⟨Cert.KernelIdeal.Hop.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ hr c => ⟨(hr.1 c (1 : Fin 2)).trans ((Cert.KernelIdeal.Hop.finalA_out m c).trans (Cert.KernelIdeal.Hop.outAt_eq_block m _ h c)),
        (hr.1 c (0 : Fin 2)).trans (Cert.KernelIdeal.Hop.finalA_x m c)⟩)
      (Cert.KernelIdeal.Hop.run_main (F := Ideal) m g),
    (θ_run Cert.ReferenceIdeal.defs _ _).mono (fun _ hr => hr 0) (Cert.ReferenceIdeal.Value.run (F := Ideal) m' g')⟩

/-- All five claims together. -/
theorem claim : Cert.Claim := ⟨Cert.Kernel.Gen.facts, Cert.KernelIdeal.Gen.facts, Cert.ReferenceIdeal.Gen.facts,
  frame_kernel, frame_kernelIdeal, frame_referenceIdeal, trivial, agree⟩

end Cert.Proof

end
